-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "two_over_n" .f32 0x37A72F05#32 ((1 / 50176 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x224x224 : Shape := ⟨4, ![2, 1, 224, 224]⟩
abbrev S512x1 : Shape := ⟨2, ![512, 1]⟩
abbrev S100352x1 : Shape := ⟨2, ![100352, 1]⟩
abbrev S1x512 : Shape := ⟨2, ![1, 512]⟩
abbrev S512 : Shape := ⟨1, ![512]⟩
abbrev S100352x512 : Shape := ⟨2, ![100352, 512]⟩
abbrev S14x1x1 : Shape := ⟨3, ![14, 1, 1]⟩
abbrev S7168x1 : Shape := ⟨2, ![7168, 1]⟩
abbrev S7168x512 : Shape := ⟨2, ![7168, 512]⟩
abbrev S1x1x1 : Shape := ⟨3, ![1, 1, 1]⟩
abbrev S7168 : Shape := ⟨1, ![7168]⟩
abbrev S1x7168x1 : Shape := ⟨3, ![1, 7168, 1]⟩
abbrev S1 : Shape := ⟨1, ![1]⟩
abbrev S2x224x224 : Shape := ⟨3, ![2, 224, 224]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S2x1x224x224, .f32⟩
  | .hbm, ⟨1, _⟩ => ⟨S512x1, .f32⟩
  | .hbm, ⟨2, _⟩ => ⟨S100352x1, .f32⟩
  | .hbm, ⟨3, _⟩ => ⟨S1x512, .f32⟩
  | .hbm, ⟨4, _⟩ => ⟨S512, .f32⟩
  | .hbm, ⟨5, _⟩ => ⟨S1x512, .f32⟩
  | .hbm, ⟨6, _⟩ => ⟨S100352x512, .f32⟩
  | .hbm, ⟨7, _⟩ => ⟨S100352x1, .i32⟩
  | .hbm, ⟨8, _⟩ => ⟨S100352x1, .f32⟩
  | .hbm, ⟨9, _⟩ => ⟨S14x1x1, .f32⟩
  | .hbm, ⟨10, _⟩ => ⟨S2x224x224, .i32⟩
  | .hbm, ⟨11, _⟩ => ⟨S2x1x224x224, .f32⟩
  | .hbm, ⟨12, _⟩ => ⟨S_, .f32⟩
  | .hbm, ⟨13, _⟩ => ⟨S_, .f32⟩
  | .local _ .vmem, ⟨0, _⟩ => ⟨S7168x1, .f32⟩
  | .local _ .vmem, ⟨1, _⟩ => ⟨S7168x1, .f32⟩
  | .local _ .vmem, ⟨2, _⟩ => ⟨S1x512, .f32⟩
  | .local _ .vmem, ⟨3, _⟩ => ⟨S1x512, .f32⟩
  | .local _ .vmem, ⟨4, _⟩ => ⟨S7168x512, .f32⟩
  | .local _ .vmem, ⟨5, _⟩ => ⟨S7168x512, .f32⟩
  | .local _ .vmem, ⟨6, _⟩ => ⟨S7168x1, .i32⟩
  | .local _ .vmem, ⟨7, _⟩ => ⟨S7168x1, .i32⟩
  | .local _ .vmem, ⟨8, _⟩ => ⟨S7168x1, .f32⟩
  | .local _ .vmem, ⟨9, _⟩ => ⟨S7168x1, .f32⟩
  | .local _ .vmem, ⟨10, _⟩ => ⟨S1x1x1, .f32⟩
  | .local _ .vmem, ⟨11, _⟩ => ⟨S1x1x1, .f32⟩
  | _, _ => ⟨S2x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S7168x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7168x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S7168x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "two_over_n" => some ((1 / 50176 : ℝ) : EReal)
  | _ => none
-- ==== ReferenceIdeal.lean ====
abbrev S2x1x224x224 : Shape := ⟨4, ![2, 1, 224, 224]⟩
abbrev S512x1 : Shape := ⟨2, ![512, 1]⟩
abbrev S2x224x224x1 : Shape := ⟨4, ![2, 224, 224, 1]⟩
abbrev S100352x1 : Shape := ⟨2, ![100352, 1]⟩
abbrev S_ : Shape := ⟨0, ![]⟩
abbrev S100352 : Shape := ⟨1, ![100352]⟩
abbrev S512 : Shape := ⟨1, ![512]⟩
abbrev S1x512 : Shape := ⟨2, ![1, 512]⟩
abbrev S100352x512 : Shape := ⟨2, ![100352, 512]⟩
abbrev S2x224x224 : Shape := ⟨3, ![2, 224, 224]⟩
abbrev S2x1x224 : Shape := ⟨3, ![2, 1, 224]⟩
abbrev S1 : Shape := ⟨1, ![1]⟩
abbrev S2x2x224 : Shape := ⟨3, ![2, 2, 224]⟩
abbrev S2x3x224 : Shape := ⟨3, ![2, 3, 224]⟩
abbrev S2x4x224 : Shape := ⟨3, ![2, 4, 224]⟩
abbrev S1x1x1x1 : Shape := ⟨4, ![1, 1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S2x1x224x224, .f32⟩
  | .hbm, ⟨1, _⟩ => ⟨S512x1, .f32⟩
  | .hbm, ⟨2, _⟩ => ⟨S2x224x224x1, .f32⟩
  | .hbm, ⟨3, _⟩ => ⟨S100352x1, .f32⟩
  | .hbm, ⟨4, _⟩ => ⟨S100352x1, .f32⟩
  | .hbm, ⟨5, _⟩ => ⟨S_, .f32⟩
  | .hbm, ⟨6, _⟩ => ⟨S100352, .f32⟩
  | .hbm, ⟨7, _⟩ => ⟨S100352x1, .f32⟩
  | .hbm, ⟨8, _⟩ => ⟨S512x1, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S100352x512, .f32⟩
  | .hbm, ⟨13, _⟩ => ⟨S100352x512, .f32⟩
  | .hbm, ⟨14, _⟩ => ⟨S100352x512, .f32⟩
  | .hbm, ⟨15, _⟩ => ⟨S1x512, .f32⟩
  | .hbm, ⟨16, _⟩ => ⟨S100352x512, .f32⟩
  | .hbm, ⟨17, _⟩ => ⟨S_, .f32⟩
  | .hbm, ⟨18, _⟩ => ⟨S100352x512, .f32⟩
  | .hbm, ⟨19, _⟩ => ⟨S100352x512, .f32⟩
  | .hbm, ⟨20, _⟩ => ⟨S100352x512, .f32⟩
  | .hbm, ⟨21, _⟩ => ⟨S100352x512, .i32⟩
  | .hbm, ⟨22, _⟩ => ⟨S_, .f32⟩
  | .hbm, ⟨23, _⟩ => ⟨S_, .i32⟩
  | .hbm, ⟨24, _⟩ => ⟨S100352, .f32⟩
  | .hbm, ⟨25, _⟩ => ⟨S100352, .i32⟩
  | .hbm, ⟨26, _⟩ => ⟨S2x224x224, .i32⟩
  | .hbm, ⟨27, _⟩ => ⟨S2x1x224, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S2x1x224, .i32⟩
  | .hbm, ⟨32, _⟩ => ⟨S2x1x224, .i32⟩
  | .hbm, ⟨33, _⟩ => ⟨S_, .i32⟩
  | .hbm, ⟨34, _⟩ => ⟨S2x1x224, .i32⟩
  | .hbm, ⟨35, _⟩ => ⟨S2x1x224, .i32⟩
  | .hbm, ⟨36, _⟩ => ⟨S_, .i32⟩
  | .hbm, ⟨37, _⟩ => ⟨S1, .i32⟩
  | .hbm, ⟨38, _⟩ => ⟨S2x224x224, .i32⟩
  | .hbm, ⟨39, _⟩ => ⟨S2x2x224, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2x2x224, .i32⟩
  | .hbm, ⟨44, _⟩ => ⟨S2x2x224, .i32⟩
  | .hbm, ⟨45, _⟩ => ⟨S_, .i32⟩
  | .hbm, ⟨46, _⟩ => ⟨S2x2x224, .i32⟩
  | .hbm, ⟨47, _⟩ => ⟨S2x2x224, .i32⟩
  | .hbm, ⟨48, _⟩ => ⟨S_, .i32⟩
  | .hbm, ⟨49, _⟩ => ⟨S1, .i32⟩
  | .hbm, ⟨50, _⟩ => ⟨S2x224x224, .i32⟩
  | .hbm, ⟨51, _⟩ => ⟨S2x3x224, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S2x3x224, .i32⟩
  | .hbm, ⟨56, _⟩ => ⟨S2x3x224, .i32⟩
  | .hbm, ⟨57, _⟩ => ⟨S_, .i32⟩
  | .hbm, ⟨58, _⟩ => ⟨S2x3x224, .i32⟩
  | .hbm, ⟨59, _⟩ => ⟨S2x3x224, .i32⟩
  | .hbm, ⟨60, _⟩ => ⟨S_, .i32⟩
  | .hbm, ⟨61, _⟩ => ⟨S1, .i32⟩
  | .hbm, ⟨62, _⟩ => ⟨S2x224x224, .i32⟩
  | .hbm, ⟨63, _⟩ => ⟨S2x4x224, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S2x4x224, .i32⟩
  | .hbm, ⟨68, _⟩ => ⟨S2x4x224, .i32⟩
  | .hbm, ⟨69, _⟩ => ⟨S_, .i32⟩
  | .hbm, ⟨70, _⟩ => ⟨S2x4x224, .i32⟩
  | .hbm, ⟨71, _⟩ => ⟨S2x4x224, .i32⟩
  | .hbm, ⟨72, _⟩ => ⟨S_, .i32⟩
  | .hbm, ⟨73, _⟩ => ⟨S1, .i32⟩
  | .hbm, ⟨74, _⟩ => ⟨S2x224x224, .i32⟩
  | .hbm, ⟨75, _⟩ => ⟨S_, .i32⟩
  | .hbm, ⟨76, _⟩ => ⟨S2x224x224, .i32⟩
  | .hbm, ⟨77, _⟩ => ⟨S2x224x224, .i1⟩
  | .hbm, ⟨78, _⟩ => ⟨S_, .i32⟩
  | .hbm, ⟨79, _⟩ => ⟨S2x224x224, .i32⟩
  | .hbm, ⟨80, _⟩ => ⟨S2x224x224, .i32⟩
  | .hbm, ⟨81, _⟩ => ⟨S2x224x224, .i32⟩
  | .hbm, ⟨82, _⟩ => ⟨S2x224x224x1, .i32⟩
  | .hbm, ⟨83, _⟩ => ⟨S1, .i32⟩
  | .hbm, ⟨84, _⟩ => ⟨S_, .i32⟩
  | .hbm, ⟨85, _⟩ => ⟨S2x224x224x1, .i32⟩
  | .hbm, ⟨86, _⟩ => ⟨S2x224x224x1, .i1⟩
  | .hbm, ⟨87, _⟩ => ⟨S1x1x1x1, .i32⟩
  | .hbm, ⟨88, _⟩ => ⟨S2x224x224x1, .i32⟩
  | .hbm, ⟨89, _⟩ => ⟨S2x224x224x1, .i1⟩
  | .hbm, ⟨90, _⟩ => ⟨S2x224x224x1, .i1⟩
  | .hbm, ⟨91, _⟩ => ⟨S_, .i1⟩
  | .hbm, ⟨92, _⟩ => ⟨S2x224x224, .i1⟩
  | .hbm, ⟨93, _⟩ => ⟨S2x224x224x1, .f32⟩
  | .hbm, ⟨94, _⟩ => ⟨S2x224x224x1, .i1⟩
  | .hbm, ⟨95, _⟩ => ⟨S_, .f32⟩
  | .hbm, ⟨96, _⟩ => ⟨S2x224x224x1, .f32⟩
  | .hbm, ⟨97, _⟩ => ⟨S2x224x224x1, .f32⟩
  | .hbm, ⟨98, _⟩ => ⟨S2x1x224x224, .f32⟩
  | .hbm, ⟨99, _⟩ => ⟨S2x1x224x224, .f32⟩
  | .hbm, ⟨100, _⟩ => ⟨S2x1x224x224, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2x1x224x224, .f32⟩
  | .hbm, ⟨106, _⟩ => ⟨S2x1x224x224, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S2x1x224x224, .f32⟩
  | .hbm, ⟨113, _⟩ => ⟨S2x1x224x224, .f32⟩
  | _, _ => ⟨S2x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_c_5 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_7 : Ref sig .tc := ⟨.hbm, 52, rfl⟩
abbrev main_c_8 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v27 : Ref sig .tc := ⟨.hbm, 59, rfl⟩
abbrev main_c_9 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_10 : Ref sig .tc := ⟨.hbm, 64, rfl⟩
abbrev main_c_11 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_v31 : Ref sig .tc := ⟨.hbm, 71, rfl⟩
abbrev main_c_12 : Ref sig .tc := ⟨.hbm, 72, rfl⟩
abbrev main_v32 : Ref sig .tc := ⟨.hbm, 73, rfl⟩
abbrev main_v33 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_v14 : Ref sig .tc := ⟨.hbm, 94, rfl⟩
abbrev main_call5_cst : Ref sig .tc := ⟨.hbm, 95, rfl⟩
abbrev main_call5_v15 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_13 : Ref sig .tc := ⟨.hbm, 101, rfl⟩
abbrev main_v38 : Ref sig .tc := ⟨.hbm, 102, rfl⟩
abbrev main_cst_14 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_15 : Ref sig .tc := ⟨.hbm, 107, rfl⟩
abbrev main_v42 : Ref sig .tc := ⟨.hbm, 108, rfl⟩
abbrev main_cst_16 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩

abbrev nD : Nat := 1
abbrev τ : Topo := Topo.v7x

variable {F : FTy → Type} [FloatOps F]
-- ==== Proof.KernelBlocks.lean ====
/-
  What one grid point of the kernel leaves in its four output blocks, as expressions in its three input blocks: the pixels'
  column `x`, the codebook row `w` and the row `fi` of lane numbers. The grid has fourteen points; at points 0 and 7 (the
  first block of each of the two images) the stored indices are clamped and read back, at the other twelve they are stored as found.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.KernelBlocks

open Cert.KernelIdeal Cert.KernelIdeal.Gen

variable {F : FTy → Type} [FloatOps F] [Named F]

/-- The offsets written as a literal pair, and as a literal triple, are all zero. -/
theorem off2 : (![0, 0] : Fin 2 → Nat) = fun _ => 0 := funext fun a => by fin_cases a <;> rfl
theorem off3 : (![0, 0, 0] : Fin 3 → Nat) = fun _ => 0 := funext fun a => by fin_cases a <;> rfl

/-- The index column a point of the first kind (points 0 and 7) ends with: the nearest indices, clamped by row. -/
abbrev codesA (x : Vec F S7168x1 .f32) (w fi : Vec F S1x512 .f32) : Vec F S7168x1 .i32 := k0_pay1 (k0_pay9 x w fi)
/-- The index column any other point ends with: the nearest indices. -/
abbrev codesB (x : Vec F S7168x1 .f32) (w fi : Vec F S1x512 .f32) : Vec F S7168x1 .i32 := k0_pay9 x w fi
/-- The quantized column, from the index column `e` a point ends with. -/
abbrev quantOf (x : Vec F S7168x1 .f32) (w fi : Vec F S1x512 .f32) (e : Vec F S7168x1 .i32) : Vec F S7168x1 .f32 :=
  k0_pay3 (k0_pay5 x) (k0_pay6 w) (k0_pay7 fi) e
/-- The scaled sum of squared differences, from the index column `e` a point ends with. -/
abbrev lossOf (x : Vec F S7168x1 .f32) (w fi : Vec F S1x512 .f32) (e : Vec F S7168x1 .i32) : Vec F S1x1x1 .f32 :=
  k0_pay4 (k0_pay5 x) (k0_pay6 w) (k0_pay7 fi) e

/-- Output 3 (the distances) after a point of the first kind. -/
theorem out_A_3 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : cond0_0 i) (x : Vec F S7168x1 .f32) (w fi : Vec F S1x512 .f32) :
    out0_A_3 c i a1 h1 a2 h2 a3 h3 a4 h4 a5 h5 a6 h6 a7 h7 hc x w fi = k0_pay8 x w := by
  unfold out0_A_3
  rw [View.read_writes_eq_canon _ _ _ (cover0_A_3 c i a1 h1 a2 h2 a3 h3 a4 h4 a5 h5 a6 h6 a7 h7 hc x w fi)]
  unfold kernelRun0_A
  dsimp only
  sl_unfold_words
  rw [View.canon_unit_zero (S := S7168x512) off2]
  simp only [View.readAt_eq_ld, h1.read_unread, h2.read_unread, h3.read_unread, View.ld_unit_zero (S := S7168x1) off2,
    View.ld_unit_zero (S := S1x512) off2, View.readCov_unit_zero (S := S7168x1) _ off2]

/-- Output 4 (the indices) after a point of the first kind. -/
theorem out_A_4 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : cond0_0 i) (x : Vec F S7168x1 .f32) (w fi : Vec F S1x512 .f32) :
    out0_A_4 c i a1 h1 a2 h2 a3 h3 a4 h4 a5 h5 a6 h6 a7 h7 hc x w fi = codesA x w fi := by
  unfold out0_A_4
  rw [View.read_writes_eq_canon _ _ _ (cover0_A_4 c i a1 h1 a2 h2 a3 h3 a4 h4 a5 h5 a6 h6 a7 h7 hc x w fi)]
  unfold kernelRun0_A
  dsimp only
  sl_unfold_words
  rw [View.canon_cons_unit_zero (S := S7168x1) off2]
  simp only [View.readAt_eq_ld, h1.read_unread, h2.read_unread, h3.read_unread, View.ld_unit_zero (S := S7168x1) off2,
    View.ld_unit_zero (S := S1x512) off2, View.readCov_unit_zero (S := S7168x1) _ off2]

/-- Output 5 (the quantized column) after a point of the first kind. -/
theorem out_A_5 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : cond0_0 i) (x : Vec F S7168x1 .f32) (w fi : Vec F S1x512 .f32) :
    out0_A_5 c i a1 h1 a2 h2 a3 h3 a4 h4 a5 h5 a6 h6 a7 h7 hc x w fi = quantOf x w fi (codesA x w fi) := by
  unfold out0_A_5
  rw [View.read_writes_eq_canon _ _ _ (cover0_A_5 c i a1 h1 a2 h2 a3 h3 a4 h4 a5 h5 a6 h6 a7 h7 hc x w fi)]
  unfold kernelRun0_A
  dsimp only
  sl_unfold_words
  rw [View.canon_unit_zero (S := S7168x1) off2]
  simp only [View.readAt_eq_ld, h1.read_unread, h2.read_unread, h3.read_unread, View.ld_unit_zero (S := S7168x1) off2,
    View.ld_unit_zero (S := S1x512) off2, View.readCov_unit_zero (S := S7168x1) _ off2]
  rw [View.readCov_cons_toLoadRect]

/-- Output 6 (the scaled sum of squares) after a point of the first kind. -/
theorem out_A_6 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : cond0_0 i) (x : Vec F S7168x1 .f32) (w fi : Vec F S1x512 .f32) :
    out0_A_6 c i a1 h1 a2 h2 a3 h3 a4 h4 a5 h5 a6 h6 a7 h7 hc x w fi = lossOf x w fi (codesA x w fi) := by
  unfold out0_A_6
  rw [View.read_writes_eq_canon _ _ _ (cover0_A_6 c i a1 h1 a2 h2 a3 h3 a4 h4 a5 h5 a6 h6 a7 h7 hc x w fi)]
  unfold kernelRun0_A
  dsimp only
  sl_unfold_words
  rw [View.canon_unit_zero (S := S1x1x1) off3]
  simp only [View.readAt_eq_ld, h1.read_unread, h2.read_unread, h3.read_unread, View.ld_unit_zero (S := S7168x1) off2,
    View.ld_unit_zero (S := S1x512) off2, View.readCov_unit_zero (S := S7168x1) _ off2]
  rw [View.readCov_cons_toLoadRect]

/-- Output 3 (the distances) after a point of the second kind. -/
theorem out_B_3 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : ¬cond0_0 i) (x : Vec F S7168x1 .f32) (w fi : Vec F S1x512 .f32) :
    out0_B_3 c i a1 h1 a2 h2 a3 h3 a4 h4 a5 h5 a6 h6 a7 h7 hc x w fi = k0_pay8 x w := by
  unfold out0_B_3
  rw [View.read_writes_eq_canon _ _ _ (cover0_B_3 c i a1 h1 a2 h2 a3 h3 a4 h4 a5 h5 a6 h6 a7 h7 hc x w fi)]
  unfold kernelRun0_B
  dsimp only
  sl_unfold_words
  rw [View.canon_unit_zero (S := S7168x512) off2]
  simp only [View.readAt_eq_ld, h1.read_unread, h2.read_unread, h3.read_unread, View.ld_unit_zero (S := S7168x1) off2,
    View.ld_unit_zero (S := S1x512) off2, View.readCov_unit_zero (S := S7168x1) _ off2]

/-- Output 4 (the indices) after a point of the second kind. -/
theorem out_B_4 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : ¬cond0_0 i) (x : Vec F S7168x1 .f32) (w fi : Vec F S1x512 .f32) :
    out0_B_4 c i a1 h1 a2 h2 a3 h3 a4 h4 a5 h5 a6 h6 a7 h7 hc x w fi = codesB x w fi := by
  unfold out0_B_4
  rw [View.read_writes_eq_canon _ _ _ (cover0_B_4 c i a1 h1 a2 h2 a3 h3 a4 h4 a5 h5 a6 h6 a7 h7 hc x w fi)]
  unfold kernelRun0_B
  dsimp only
  sl_unfold_words
  rw [View.canon_unit_zero (S := S7168x1) off2]
  simp only [View.readAt_eq_ld, h1.read_unread, h2.read_unread, h3.read_unread, View.ld_unit_zero (S := S7168x1) off2,
    View.ld_unit_zero (S := S1x512) off2, View.readCov_unit_zero (S := S7168x1) _ off2]

/-- Output 5 (the quantized column) after a point of the second kind. -/
theorem out_B_5 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : ¬cond0_0 i) (x : Vec F S7168x1 .f32) (w fi : Vec F S1x512 .f32) :
    out0_B_5 c i a1 h1 a2 h2 a3 h3 a4 h4 a5 h5 a6 h6 a7 h7 hc x w fi = quantOf x w fi (codesB x w fi) := by
  unfold out0_B_5
  rw [View.read_writes_eq_canon _ _ _ (cover0_B_5 c i a1 h1 a2 h2 a3 h3 a4 h4 a5 h5 a6 h6 a7 h7 hc x w fi)]
  unfold kernelRun0_B
  dsimp only
  sl_unfold_words
  rw [View.canon_unit_zero (S := S7168x1) off2]
  simp only [View.readAt_eq_ld, h1.read_unread, h2.read_unread, h3.read_unread, View.ld_unit_zero (S := S7168x1) off2,
    View.ld_unit_zero (S := S1x512) off2, View.readCov_unit_zero (S := S7168x1) _ off2]

/-- Output 6 (the scaled sum of squares) after a point of the second kind. -/
theorem out_B_6 (c : Dev nD) (i : grid0.Coords) (a1 : Memref sig .tc .vmem S7168x1 .f32) (h1 : a1.IsWhole)
    (a2 : Memref sig .tc .vmem S1x512 .f32) (h2 : a2.IsWhole) (a3 : Memref sig .tc .vmem S1x512 .f32) (h3 : a3.IsWhole)
    (a4 : Memref sig .tc .vmem S7168x512 .f32) (h4 : a4.IsWhole) (a5 : Memref sig .tc .vmem S7168x1 .i32) (h5 : a5.IsWhole)
    (a6 : Memref sig .tc .vmem S7168x1 .f32) (h6 : a6.IsWhole) (a7 : Memref sig .tc .vmem S1x1x1 .f32) (h7 : a7.IsWhole)
    (hc : ¬cond0_0 i) (x : Vec F S7168x1 .f32) (w fi : Vec F S1x512 .f32) :
    out0_B_6 c i a1 h1 a2 h2 a3 h3 a4 h4 a5 h5 a6 h6 a7 h7 hc x w fi = lossOf x w fi (codesB x w fi) := by
  unfold out0_B_6
  rw [View.read_writes_eq_canon _ _ _ (cover0_B_6 c i a1 h1 a2 h2 a3 h3 a4 h4 a5 h5 a6 h6 a7 h7 hc x w fi)]
  unfold kernelRun0_B
  dsimp only
  sl_unfold_words
  rw [View.canon_unit_zero (S := S1x1x1) off3]
  simp only [View.readAt_eq_ld, h1.read_unread, h2.read_unread, h3.read_unread, View.ld_unit_zero (S := S7168x1) off2,
    View.ld_unit_zero (S := S1x512) off2, View.readCov_unit_zero (S := S7168x1) _ off2]

end Cert.Proof.KernelBlocks

end
-- ==== Proof.Spec.lean ====
/-
  The mathematics both programs compute, over the extended reals, with no program in sight: the expanded squared
  distance, the first index at which a table of 512 distances is least, the clamp of the first image rows, the code of
  a pixel, the straight-through value and the loss. The lemmas say how a lane-by-lane search arrives at the first
  index, and how the loss splits into parts.
-/
module

public import Mathlib.Data.EReal.Operations
public import Mathlib.Data.EReal.Inv
public import Mathlib.Algebra.Order.BigOperators.Group.Finset
public import Mathlib.Data.Finset.Fold
public import Mathlib.Algebra.BigOperators.Fin

@[expose] public section

noncomputable section

namespace Cert.Proof.Spec

/-- The squared distance of `x` and `w`, expanded as both programs expand it. -/
def dist (x w : EReal) : EReal := x * x + w * w - x * (w + w)

/-- Twice a product is the product with the doubled factor. -/
theorem two_mul_mul (x w : EReal) : (2 : EReal) * (x * w) = x * (w + w) := by
  have h : (2 : EReal) * w = w + w := by
    induction w with
    | bot => rw [EReal.bot_add]; exact EReal.coe_mul_bot_of_pos (x := 2) (by norm_num)
    | top => exact EReal.coe_mul_top_of_pos (x := 2) (by norm_num)
    | coe r => rw [← EReal.coe_add, ← two_mul, EReal.coe_mul]; rfl
  rw [mul_left_comm, h]

/-- Some index of a table is the first at which the table is least. -/
theorem exists_first (D : Fin 512 → EReal) : ∃ j, (∀ i, D j ≤ D i) ∧ ∀ i, i < j → D j < D i := by
  classical
  obtain ⟨m, -, hm⟩ := Finset.exists_min_image (Finset.univ : Finset (Fin 512)) D ⟨0, Finset.mem_univ _⟩
  let S : Finset (Fin 512) := Finset.univ.filter fun j => D j = D m
  have hS : S.Nonempty := ⟨m, by simp [S]⟩
  have hj : D (S.min' hS) = D m := (Finset.mem_filter.mp (S.min'_mem hS)).2
  refine ⟨S.min' hS, fun i => hj ▸ hm i (Finset.mem_univ _), fun i hi => ?_⟩
  rw [hj]
  refine lt_of_le_of_ne (hm i (Finset.mem_univ _)) fun e => ?_
  exact absurd (S.min'_le i (by simp [S, e])) (not_le.mpr hi)

/-- The first index at which a table is least. -/
def first (D : Fin 512 → EReal) : Fin 512 := Classical.choose (exists_first D)

theorem first_le (D : Fin 512 → EReal) (i : Fin 512) : D (first D) ≤ D i := (Classical.choose_spec (exists_first D)).1 i

theorem first_lt (D : Fin 512 → EReal) (i : Fin 512) (h : i < first D) : D (first D) < D i :=
  (Classical.choose_spec (exists_first D)).2 i h

/-- An index at which the table is least, with no earlier one, is the first. -/
theorem first_unique (D : Fin 512 → EReal) (j : Fin 512) (h : ∀ i, D j ≤ D i) (h' : ∀ i, i < j → D j < D i) :
    j = first D := by
  rcases lt_trichotomy j (first D) with hl | e | hl
  · exact absurd (h (first D)) (not_le.mpr (first_lt D j hl))
  · exact e
  · exact absurd (first_le D j) (not_le.mpr (h' _ hl))

/-- The smaller of the entries of a table, from the top element on, is the entry at the first least index. -/
theorem fold_min (D : Fin 512 → EReal) : (Finset.univ : Finset (Fin 512)).fold min ⊤ D = D (first D) := by
  apply le_antisymm
  · exact (Finset.le_fold_min _).mp le_rfl |>.2 _ (Finset.mem_univ _)
  · exact (Finset.le_fold_min _).mpr ⟨le_top, fun i _ => first_le D i⟩

/-- The smallest lane number among the lanes at which the table is least (512 elsewhere) is the first index. -/
theorem fold_min_lane (D : Fin 512 → EReal) :
    (Finset.univ : Finset (Fin 512)).fold min ⊤
      (fun j => if D j = D (first D) then (((j : ℕ) : ℝ) : EReal) else ((512 : ℝ) : EReal))
      = (((first D : ℕ) : ℝ) : EReal) := by
  apply le_antisymm
  · have := (Finset.le_fold_min _).mp (le_refl ((Finset.univ : Finset (Fin 512)).fold min ⊤
      (fun j => if D j = D (first D) then (((j : ℕ) : ℝ) : EReal) else ((512 : ℝ) : EReal)))) |>.2 (first D)
      (Finset.mem_univ _)
    simpa using this
  · refine (Finset.le_fold_min _).mpr ⟨le_top, fun i _ => ?_⟩
    split
    · next e =>
      rw [EReal.coe_le_coe_iff, Nat.cast_le]
      by_contra hlt
      exact absurd e (ne_of_gt (first_lt D i (not_le.mp hlt)))
    · rw [EReal.coe_le_coe_iff]
      exact_mod_cast (first D).isLt.le

/-- The largest code row `h` of an image may take: 1, 3, 5 and 7 in the first four rows, no limit below them. -/
def bound (h : ℕ) : ℕ := if h < 4 then 2 * h + 1 else 511

/-- The code of pixel `n`: the first least distance's index, clamped in the first rows of its image. -/
def code (X : Fin 100352 → EReal) (W : Fin 512 → EReal) (n : Fin 100352) : Fin 512 :=
  ⟨min (first fun j => dist (X n) (W j)).val (bound (n.val / 224 % 224)), lt_of_le_of_lt (min_le_left _ _) (Fin.isLt _)⟩

/-- The straight-through value: `x` plus what is missing to `w`. -/
def quant (x w : EReal) : EReal := x + (w - x)

/-- The squared error of `w` for `x`. -/
def sqErr (x w : EReal) : EReal := (w - x) * (w - x)

theorem sqErr_nonneg (x w : EReal) : 0 ≤ sqErr x w := by
  rcases le_total 0 (w - x) with h | h
  · exact mul_nonneg h h
  · exact EReal.mul_nonneg_iff.mpr (Or.inr ⟨h, h⟩)

/-- The factor of the loss: two over the number of pixels. -/
def scale : EReal := ((1 / 50176 : ℝ) : EReal)

theorem scale_nonneg : 0 ≤ scale := EReal.coe_nonneg.mpr (by norm_num)

/-- The loss: the squared errors of all pixels, scaled. -/
def loss (X : Fin 100352 → EReal) (W : Fin 512 → EReal) : EReal :=
  (∑ n, sqErr (X n) (W (code X W n))) * scale

/-- A sum of nonnegative parts, each scaled, is the scaled sum. -/
theorem sum_mul_scale {ι : Type} (s : Finset ι) (f : ι → EReal) (c : EReal) (hf : ∀ i, 0 ≤ f i) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (hf a) (Finset.sum_nonneg fun i _ => hf i)]

/-- Pixel number `7168 t + p`: pixel `p` of part `t`. -/
def pix (t : Fin 14) (p : Fin 7168) : Fin 100352 := ⟨t.val * 7168 + p.val, by have := t.isLt; have := p.isLt; omega⟩

/-- A sum over all pixels is the sum over the parts of the sums over their pixels. -/
theorem sum_pix (f : Fin 100352 → EReal) : ∑ n, f n = ∑ t, ∑ p, f (pix t p) := by
  rw [← Finset.sum_product']
  refine (Fintype.sum_equiv (finProdFinEquiv (m := 14) (n := 7168)) _ _ fun q => ?_).symm
  refine congrArg f (Fin.ext ?_)
  show q.1.val * 7168 + q.2.val = q.2.val + 7168 * q.1.val
  omega

/-- The loss is the sum of the parts' scaled squared errors. -/
theorem loss_eq_parts (X : Fin 100352 → EReal) (W : Fin 512 → EReal) :
    loss X W = ∑ t, (∑ p, sqErr (X (pix t p)) (W (code X W (pix t p)))) * scale := by
  rw [sum_mul_scale _ _ _ fun t => Finset.sum_nonneg fun p _ => sqErr_nonneg _ _, loss, sum_pix]

/-- The loss is the mean squared error, twice. -/
theorem loss_eq_twice_mean (X : Fin 100352 → EReal) (W : Fin 512 → EReal) :
    loss X W = (∑ n, sqErr (X n) (W (code X W n))) * ((1 / 100352 : ℝ) : EReal)
      + (∑ n, sqErr (X n) (W (code X W n))) * ((1 / 100352 : ℝ) : EReal) := by
  have h : (0 : EReal) ≤ ((1 / 100352 : ℝ) : EReal) := EReal.coe_nonneg.mpr (by norm_num)
  rw [← EReal.left_distrib_of_nonneg h h, ← EReal.coe_add, loss, scale]
  norm_num

/-- In a part that begins an image half's worth of rows (a multiple of seven), pixel `p` lies in image row `p / 224`. -/
theorem bound_pix_first (t : Fin 14) (h : t.val % 7 = 0) (p : Fin 7168) :
    bound ((pix t p).val / 224 % 224) = bound (p.val / 224) := by
  have := t.isLt; have := p.isLt
  have e : (pix t p).val / 224 % 224 = p.val / 224 := by simp only [pix]; omega
  rw [e]

/-- In every other part the pixels lie below the clamped rows. -/
theorem bound_pix_other (t : Fin 14) (h : ¬ t.val % 7 = 0) (p : Fin 7168) :
    bound ((pix t p).val / 224 % 224) = 511 := by
  have := t.isLt; have := p.isLt
  have e : ¬ (pix t p).val / 224 % 224 < 4 := by simp only [pix]; omega
  rw [bound, if_neg e]

end Cert.Proof.Spec
-- ==== Proof.Words.lean ====
/-
  Small natural numbers as 32-bit words: comparing, clamping and converting them.
-/
module

public import Idealize.ShloMosaic.PureOps.Ideal
public import proofs.«01_k».proof.Proof.Spec

@[expose] public section

noncomputable section

namespace Cert.Proof.Words
open Idealize.ShloMosaic

/-- A small number's word, read as a signed integer, is the number. -/
theorem toInt_word {n : ℕ} (h : n < 2 ^ 31) : (BitVec.ofNat 32 n).toInt = (n : ℤ) := by
  rw [BitVec.toInt_eq_toNat_of_lt (by rw [BitVec.toNat_ofNat]; omega), BitVec.toNat_ofNat]
  omega

/-- Small numbers are told apart by their words. -/
theorem word_inj {a b : ℕ} (ha : a < 2 ^ 31) (hb : b < 2 ^ 31) : BitVec.ofNat 32 a = BitVec.ofNat 32 b ↔ a = b := by
  constructor
  · intro e
    have := congrArg BitVec.toInt e
    rw [toInt_word ha, toInt_word hb] at this
    exact_mod_cast this
  · rintro rfl; rfl

/-- Signed comparison of small numbers' words. -/
theorem slt_word {a b : ℕ} (ha : a < 2 ^ 31) (hb : b < 2 ^ 31) :
    (BitVec.ofNat 32 a).slt (BitVec.ofNat 32 b) = decide (a < b) := by
  rw [BitVec.slt, toInt_word ha, toInt_word hb]
  simp

/-- The signed minimum of small numbers' words. -/
theorem minsi_word {a b : ℕ} (ha : a < 2 ^ 31) (hb : b < 2 ^ 31) :
    IntOp.minsi (BitVec.ofNat 32 a) (BitVec.ofNat 32 b) = BitVec.ofNat 32 (min a b) := by
  rw [IntOp.minsi, slt_word ha hb]
  by_cases h : a < b
  · rw [min_eq_left h.le]; simp [h]
  · rw [min_eq_right (not_lt.mp h)]; simp [h]

/-- The signed maximum of zero and a small number's word. -/
theorem maxsi_zero_word {a : ℕ} (ha : a < 2 ^ 31) : IntOp.maxsi (0#32) (BitVec.ofNat 32 a) = BitVec.ofNat 32 a := by
  have h0 : (0#32) = BitVec.ofNat 32 0 := rfl
  rw [IntOp.maxsi, h0, slt_word ha (by norm_num)]
  simp

/-- Rounding a small number to an integer word gives its word. -/
theorem fptosi_nat {n : ℕ} (h : n < 2 ^ 31) :
    FloatOps.fptosi (F := Ideal) (φ := .f32) 32 ((((n : ℕ) : ℝ) : EReal)) = BitVec.ofNat 32 n := by
  show BitVec.ofInt 32 (Ideal.toIntClamped _ _ (((n : ℕ) : ℝ) : EReal)) = _
  have : Ideal.toIntClamped (-(2 ^ (32 - 1) : Nat)) ((2 ^ (32 - 1) : Nat) - 1) (((n : ℕ) : ℝ) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    omega
  rw [this]
  simp

/-- A small number's word as a real number. -/
theorem sitofp_word {n : ℕ} (h : n < 2 ^ 31) :
    FloatOps.sitofp (F := Ideal) .f32 (BitVec.ofNat 32 n) = ((((n : ℕ) : ℝ) : EReal)) := by
  show (((BitVec.ofNat 32 n).toInt : ℝ) : EReal) = _
  rw [toInt_word h]; simp

/-- The pattern of positive infinity is the top element. -/
theorem inf_top : Ideal.ofBits .f32 0x7F800000#32 = (⊤ : EReal) := by
  simp [Ideal.ofBits, Ideal.ieee]

end Cert.Proof.Words
-- ==== Proof.KernelPayloads.lean ====
/-
  What one block of the kernel computes, read at an index: the payloads of `KernelBlocks` as the functions of `Spec`.
-/
module

public import proofs.«01_k».proof.Proof.KernelBlocks
public import proofs.«01_k».proof.Proof.Spec
public import proofs.«01_k».proof.Proof.Words
public import Idealize.ShloMosaic.Lib.Pointwise

@[expose] public section

set_option maxRecDepth 16384

noncomputable section

open Idealize.ShloMosaic Idealize.ShloMosaic.TcCoe Idealize.SL.Sem

namespace Cert.Proof.KernelPayloads
open Cert.KernelIdeal Cert.KernelIdeal.Gen Cert.Proof.Spec

/-- The table of distances of the block's pixel `p`. -/
theorem distances (x : Vec Ideal S7168x1 .f32) (w : Vec Ideal S1x512 .f32) (p : Fin 7168) (j : Fin 512) :
    k0_pay8 (F := Ideal) x w (ix2 p j) = dist (x (ix2 p 0)) (w (ix2 0 j)) := by
  pointwise [k0_pay8, k0_pay5, k0_pay6]
  rfl

/-- The pattern of a lane that is not least is 512. -/
theorem lanes_512 : Ideal.ofBits .f32 0x44000000#32 = ((512 : ℝ) : EReal) := by
  simp [Ideal.ofBits, Ideal.ieee, -EReal.coe_mul]; norm_num

/-- The stored index of pixel `p`, with lane numbers in `fi`: the first lane at which the distance is least. -/
theorem nearest (x : Vec Ideal S7168x1 .f32) (w fi : Vec Ideal S1x512 .f32)
    (hfi : ∀ j : Fin 512, fi (ix2 0 j) = (((j : ℕ) : ℝ) : EReal)) (p : Fin 7168) :
    k0_pay9 (F := Ideal) x w fi (ix2 p 0)
      = BitVec.ofNat 32 (first fun j => dist (x (ix2 p 0)) (w (ix2 0 j))).val := by
  pointwise [k0_pay9, k0_pay7, distances, Words.inf_top, lanes_512, hfi]
  rw [fold_min fun j => dist (x (ix2 p 0)) (w (ix2 0 j)), fold_min_lane fun j => dist (x (ix2 p 0)) (w (ix2 0 j))]
  exact Words.fptosi_nat (lt_trans (Fin.isLt _) (by norm_num))

/-- The limit of the clamp at pixel `p` of an image's first block. -/
theorem clamp (v : IVec S7168x1 32) (p : Fin 7168) (n : ℕ) (hn : n < 512) (hv : v (ix2 p 0) = BitVec.ofNat 32 n) :
    k0_pay1 v (ix2 p 0) = BitVec.ofNat 32 (min n (bound (p.val / 224))) := by
  have hb : bound (p.val / 224) < 2 ^ 31 := by unfold bound; split <;> omega
  rw [← Words.minsi_word (lt_trans hn (by norm_num)) hb, ← hv]
  pointwise [k0_pay1]
  refine congrArg (IntOp.minsi (v (ix2 p 0))) ?_
  clear hv hb
  revert p
  decide +kernel

/-- The codebook entry selected by the index `k` at pixel `p`, with lane numbers in `fi`. -/
theorem lookup (w fi : Vec Ideal S1x512 .f32) (hfi : ∀ j : Fin 512, fi (ix2 0 j) = (((j : ℕ) : ℝ) : EReal))
    (e : Vec Ideal S7168x1 .i32) (p : Fin 7168) (k : Fin 512) (he : e (ix2 p 0) = BitVec.ofNat 32 k.val) :
    k0_pay2 (F := Ideal) w fi e (ix2 p 0) = w (ix2 0 k) := by
  pointwise [k0_pay2]
  rw [he, Words.sitofp_word (lt_trans k.isLt (by norm_num)), Finset.sum_eq_single k]
  · rw [hfi, if_pos rfl]
  · intro j _ hj
    rw [hfi, if_neg]
    intro h
    exact hj (Fin.ext (by exact_mod_cast h))
  · intro h; exact absurd (Finset.mem_univ _) h

/-- The straight-through value stored at pixel `p`. -/
theorem straight (x : Vec Ideal S7168x1 .f32) (w fi : Vec Ideal S1x512 .f32)
    (hfi : ∀ j : Fin 512, fi (ix2 0 j) = (((j : ℕ) : ℝ) : EReal))
    (e : Vec Ideal S7168x1 .i32) (p : Fin 7168) (k : Fin 512) (he : e (ix2 p 0) = BitVec.ofNat 32 k.val) :
    k0_pay3 (F := Ideal) x w fi e (ix2 p 0) = quant (x (ix2 p 0)) (w (ix2 0 k)) := by
  pointwise [k0_pay3]
  rw [lookup w fi hfi e p k he, quant]

/-- The block's part of the loss. -/
theorem partLoss (x : Vec Ideal S7168x1 .f32) (w fi : Vec Ideal S1x512 .f32)
    (hfi : ∀ j : Fin 512, fi (ix2 0 j) = (((j : ℕ) : ℝ) : EReal))
    (e : Vec Ideal S7168x1 .i32) (k : Fin 7168 → Fin 512) (he : ∀ p, e (ix2 p 0) = BitVec.ofNat 32 (k p).val) :
    k0_pay4 (F := Ideal) x w fi e (ix3 0 0 0) = (∑ p, sqErr (x (ix2 p 0)) (w (ix2 0 (k p)))) * scale := by
  pointwise [k0_pay4]
  have hs : Named.named (F := Ideal) (φ := .f32) κ "two_over_n" 0x37A72F05#32 = scale :=
    IdealRules.named_const.ideal_named_scalar _ _ _ _ rfl
  rw [hs]
  refine congrArg (· * scale) (Finset.sum_congr rfl fun p _ => ?_)
  rw [Fintype.sum_unique, lookup w fi hfi e p (k p) (he p), sqErr]

end Cert.Proof.KernelPayloads
-- ==== Proof.Results.lean ====
/-
  The four results as functions of the two arguments: an image batch `A` and a codebook `B`. Pixel number `n` of the
  batch is the pixel at row-major place `n`.
-/
module

public import proofs.«01_k».proof.Proof.Spec
public import Idealize.ShloMosaic.PureOps.Ideal
public import Idealize.ShloMosaic.Lib.Pointwise.Index

@[expose] public section

noncomputable section

namespace Cert.Proof.Results
open Idealize.ShloMosaic Cert.Proof.Spec

/-- The pixels of an image batch in row-major order. -/
def pixels (A : (⟨4, ![2, 1, 224, 224]⟩ : Shape).Idx → EReal) (n : Fin 100352) : EReal :=
  A (ix4 ⟨n.val / 50176, by have := n.isLt; omega⟩ 0 ⟨n.val / 224 % 224, by omega⟩ ⟨n.val % 224, by omega⟩)

/-- The entries of a codebook. -/
def entries (B : (⟨2, ![512, 1]⟩ : Shape).Idx → EReal) (j : Fin 512) : EReal := B (ix2 j 0)

/-- The number of the pixel in image `b`, row `h`, column `v`. -/
def pixNo (b : Fin 2) (h v : Fin 224) : Fin 100352 :=
  ⟨b.val * 50176 + h.val * 224 + v.val, by have := b.isLt; have := h.isLt; have := v.isLt; omega⟩

theorem pixNo_image (b : Fin 2) (h v : Fin 224) : (pixNo b h v).val / 50176 = b.val := by
  have := b.isLt; have := h.isLt; have := v.isLt; simp only [pixNo]; omega
theorem pixNo_row (b : Fin 2) (h v : Fin 224) : (pixNo b h v).val / 224 % 224 = h.val := by
  have := b.isLt; have := h.isLt; have := v.isLt; simp only [pixNo]; omega
theorem pixNo_column (b : Fin 2) (h v : Fin 224) : (pixNo b h v).val % 224 = v.val := by
  have := b.isLt; have := h.isLt; have := v.isLt; simp only [pixNo]; omega

/-- The pixel with the number of image `b`, row `h`, column `v` is the one stored there. -/
theorem pixels_pixNo (A : (⟨4, ![2, 1, 224, 224]⟩ : Shape).Idx → EReal) (b : Fin 2) (h v : Fin 224) :
    pixels A (pixNo b h v) = A (ix4 b 0 h v) := by
  unfold pixels
  congr 2 <;> apply Fin.ext
  · exact pixNo_image b h v
  · exact pixNo_row b h v
  · exact pixNo_column b h v

/-- The code of a pixel of the batch `A` in the codebook `B`. -/
def codeOf (A : (⟨4, ![2, 1, 224, 224]⟩ : Shape).Idx → EReal) (B : (⟨2, ![512, 1]⟩ : Shape).Idx → EReal)
    (n : Fin 100352) : Fin 512 := code (pixels A) (entries B) n

/-- The distances of every pixel to every codebook entry. -/
def distances (A : (⟨4, ![2, 1, 224, 224]⟩ : Shape).Idx → EReal) (B : (⟨2, ![512, 1]⟩ : Shape).Idx → EReal) :
    (⟨2, ![100352, 512]⟩ : Shape).Idx → EReal := fun i => dist (pixels A (i 0)) (entries B (i 1))

/-- The codes of the pixels, as 32-bit words in the images' places. -/
def codes (A : (⟨4, ![2, 1, 224, 224]⟩ : Shape).Idx → EReal) (B : (⟨2, ![512, 1]⟩ : Shape).Idx → EReal) :
    (⟨3, ![2, 224, 224]⟩ : Shape).Idx → BitVec 32 := fun i => BitVec.ofNat 32 (codeOf A B (pixNo (i 0) (i 1) (i 2))).val

/-- The straight-through values of the pixels, in the images' places. -/
def quants (A : (⟨4, ![2, 1, 224, 224]⟩ : Shape).Idx → EReal) (B : (⟨2, ![512, 1]⟩ : Shape).Idx → EReal) :
    (⟨4, ![2, 1, 224, 224]⟩ : Shape).Idx → EReal := fun i =>
  quant (pixels A (pixNo (i 0) (i 2) (i 3))) (entries B (codeOf A B (pixNo (i 0) (i 2) (i 3))))

/-- The loss, a single number. -/
def lossOut (A : (⟨4, ![2, 1, 224, 224]⟩ : Shape).Idx → EReal) (B : (⟨2, ![512, 1]⟩ : Shape).Idx → EReal) :
    (⟨0, ![]⟩ : Shape).Idx → EReal := fun _ => loss (pixels A) (entries B)

end Cert.Proof.Results
-- ==== Proof.KernelArrays.lean ====
/-
  The kernel's four output arrays after its run over the grid, as functions of the two arguments, over the extended reals.
-/
module

public import proofs.«01_k».proof.Proof.KernelPayloads
public import proofs.«01_k».proof.Proof.Results

@[expose] public section

set_option maxRecDepth 16384

noncomputable section

open Idealize.ShloMosaic Idealize.ShloMosaic.TcCoe Idealize.SL.Sem
open Idealize.ShloMosaic.Pipeline (Dat)

namespace Cert.Proof.KernelArrays
open Cert.KernelIdeal Cert.KernelIdeal.Gen Cert.Proof.Spec Cert.Proof.Results Cert.Proof.KernelBlocks

variable (m : (ℓ : Loc nD τ sig) → Buf (Elt Ideal) ℓ) (ρ : Dev nD → PrngReg)

/-- The two arguments of device `c`. -/
abbrev argA (c : Dev nD) : (⟨4, ![2, 1, 224, 224]⟩ : Shape).Idx → EReal := m ((c : Thread nD τ).loc main_arg0)
abbrev argB (c : Dev nD) : (⟨2, ![512, 1]⟩ : Shape).Idx → EReal := m ((c : Thread nD τ).loc main_arg1)

/-- The grid of fourteen points, and the part of the batch that a point handles. -/
def part (t : Fin cfg0.N) : Fin 14 := ⟨t.val, lt_of_lt_of_eq t.isLt N_0⟩

/-- The column of pixels, as the grid finds it. -/
theorem V_x (c : Dev nD) (n : Fin 100352) :
    (V m c main_v0 : S100352x1.Idx → EReal) (ix2 n 0) = pixels (argA m c) n := by
  have h : (V m c main_v0 : S100352x1.Idx → EReal)
      = shapeCast S100352x1 (argA m c) shapeCasts_S2x1x224x224_S100352x1 := by
    show StableHlo.after (hostOps0 (F := Ideal)) (fun b => m (c, b)) (Proc.devRef .tc main_v0) = _
    unfold hostOps0
    after_results
    rfl
  rw [h]
  pointwise
  rfl

/-- The row of codebook entries, as the grid finds it. -/
theorem V_w (c : Dev nD) (j : Fin 512) :
    (V m c main_v1 : S1x512.Idx → EReal) (ix2 0 j) = entries (argB m c) j := by
  have h : (V m c main_v1 : S1x512.Idx → EReal)
      = shapeCast S1x512 (argB m c) shapeCasts_S512x1_S1x512 := by
    show StableHlo.after (hostOps0 (F := Ideal)) (fun b => m (c, b)) (Proc.devRef .tc main_v1) = _
    unfold hostOps0
    after_results
    rfl
  rw [h]
  pointwise
  rfl

/-- The row of lane numbers, as the grid finds it. -/
theorem V_lanes (c : Dev nD) (j : Fin 512) :
    (V m c main_v3 : S1x512.Idx → EReal) (ix2 0 j) = (((j : ℕ) : ℝ) : EReal) := by
  have h : (V m c main_v3 : S1x512.Idx → EReal)
      = shapeCast S1x512 (sitofp (F := Ideal) .f32 (iotaInDim S512 32 0)) shapeCasts_S512_S1x512 := by
    show StableHlo.after (hostOps0 (F := Ideal)) (fun b => m (c, b)) (Proc.devRef .tc main_v3) = _
    unfold hostOps0
    after_results
    rfl
  rw [h]
  pointwise
  exact Words.sitofp_word (lt_trans j.isLt (by norm_num))

/-- Where the windows' blocks stand: the windows over pixels at their part's place, the two rows at the start. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 3) = t.val ∧ win0_6.index t (1 : Fin 3) = 0
    ∧ win0_6.index t (2 : Fin 3) = 0 :=
  (by decide +kernel : ∀ t : Fin grid0.N, _)

/-- The place in its array of a place in a block. -/
theorem emb0 (t : Fin cfg0.N) (p : Fin 7168) :
    ((cfg0.win 0).blk t).view.emb (ix2 p 0) = (ix2 (pix (part t) p) 0 : S100352x1.Idx) := by
  obtain ⟨e0, e1⟩ := index0 t
  funext a; apply Fin.ext
  match a with
  | ⟨0, _⟩ => show win0_0.index t (0 : Fin 2) * 7168 + 1 * p.val = t.val * 7168 + p.val; omega
  | ⟨1, _⟩ => show win0_0.index t (1 : Fin 2) * 1 + 1 * 0 = 0; omega
theorem emb1 (t : Fin cfg0.N) (j : Fin 512) :
    ((cfg0.win 1).blk t).view.emb (ix2 0 j) = (ix2 0 j : S1x512.Idx) := by
  obtain ⟨e0, e1⟩ := index1 t
  funext a; apply Fin.ext
  match a with
  | ⟨0, _⟩ => show win0_1.index t (0 : Fin 2) * 1 + 1 * 0 = 0; omega
  | ⟨1, _⟩ => show win0_1.index t (1 : Fin 2) * 512 + 1 * j.val = j.val; omega
theorem emb2 (t : Fin cfg0.N) (j : Fin 512) :
    ((cfg0.win 2).blk t).view.emb (ix2 0 j) = (ix2 0 j : S1x512.Idx) := by
  obtain ⟨e0, e1⟩ := index2 t
  funext a; apply Fin.ext
  match a with
  | ⟨0, _⟩ => show win0_2.index t (0 : Fin 2) * 1 + 1 * 0 = 0; omega
  | ⟨1, _⟩ => show win0_2.index t (1 : Fin 2) * 512 + 1 * j.val = j.val; omega
theorem emb3 (t : Fin cfg0.N) (p : Fin 7168) (j : Fin 512) :
    ((cfg0.win 3).blk t).view.emb (ix2 p j) = (ix2 (pix (part t) p) j : S100352x512.Idx) := by
  obtain ⟨e0, e1⟩ := index3 t
  funext a; apply Fin.ext
  match a with
  | ⟨0, _⟩ => show win0_3.index t (0 : Fin 2) * 7168 + 1 * p.val = t.val * 7168 + p.val; omega
  | ⟨1, _⟩ => show win0_3.index t (1 : Fin 2) * 512 + 1 * j.val = j.val; omega
theorem emb4 (t : Fin cfg0.N) (p : Fin 7168) :
    ((cfg0.win 4).blk t).view.emb (ix2 p 0) = (ix2 (pix (part t) p) 0 : S100352x1.Idx) := by
  obtain ⟨e0, e1⟩ := index4 t
  funext a; apply Fin.ext
  match a with
  | ⟨0, _⟩ => show win0_4.index t (0 : Fin 2) * 7168 + 1 * p.val = t.val * 7168 + p.val; omega
  | ⟨1, _⟩ => show win0_4.index t (1 : Fin 2) * 1 + 1 * 0 = 0; omega
theorem emb5 (t : Fin cfg0.N) (p : Fin 7168) :
    ((cfg0.win 5).blk t).view.emb (ix2 p 0) = (ix2 (pix (part t) p) 0 : S100352x1.Idx) := by
  obtain ⟨e0, e1⟩ := index5 t
  funext a; apply Fin.ext
  match a with
  | ⟨0, _⟩ => show win0_5.index t (0 : Fin 2) * 7168 + 1 * p.val = t.val * 7168 + p.val; omega
  | ⟨1, _⟩ => show win0_5.index t (1 : Fin 2) * 1 + 1 * 0 = 0; omega
theorem emb6 (t : Fin cfg0.N) :
    ((cfg0.win 6).blk t).view.emb (ix3 0 0 0) = (ix3 (part t) 0 0 : S14x1x1.Idx) := by
  obtain ⟨e0, e1, e2⟩ := index6 t
  funext a; apply Fin.ext
  match a with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 1 + 1 * 0 = 0; omega

/-- The three input blocks of a point, read at an index. -/
theorem block_x (c : Dev nD) (t : Fin cfg0.N) (p : Fin 7168) :
    (iblk m c 0 t : S7168x1.Idx → EReal) (ix2 p 0) = pixels (argA m c) (pix (part t) p) := by
  show (V m c main_v0 : S100352x1.Idx → EReal) (((cfg0.win 0).blk t).view.emb (ix2 p 0)) = _
  rw [emb0, V_x]
theorem block_w (c : Dev nD) (t : Fin cfg0.N) (j : Fin 512) :
    (iblk m c 1 t : S1x512.Idx → EReal) (ix2 0 j) = entries (argB m c) j := by
  show (V m c main_v1 : S1x512.Idx → EReal) (((cfg0.win 1).blk t).view.emb (ix2 0 j)) = _
  rw [emb1, V_w]
theorem block_lanes (c : Dev nD) (t : Fin cfg0.N) (j : Fin 512) :
    (iblk m c 2 t : S1x512.Idx → EReal) (ix2 0 j) = (((j : ℕ) : ℝ) : EReal) := by
  show (V m c main_v3 : S1x512.Idx → EReal) (((cfg0.win 2).blk t).view.emb (ix2 0 j)) = _
  rw [emb2, V_lanes]

/-- The index column a point ends with: clamped at the first block of an image, as found elsewhere. -/
def codesAt (c : Dev nD) (t : Fin cfg0.N) : Vec Ideal S7168x1 .i32 :=
  if t.val % 7 = 0 then codesA (F := Ideal) (iblk m c 0 t) (iblk m c 1 t) (iblk m c 2 t)
  else codesB (F := Ideal) (iblk m c 0 t) (iblk m c 1 t) (iblk m c 2 t)

/-- What a point leaves in the four output blocks, in terms of its input blocks. -/
theorem after_3 (c : Dev nD) (t : Fin cfg0.N) :
    (dats m 0 c).after 3 t = k0_pay8 (F := Ideal) (iblk m c 0 t) (iblk m c 1 t) := by
  rw [after0_3]
  by_cases h0 : t.val % 7 = 0
  · rw [outsAt0_A m c t h0]; dsimp only; rw [out_A_3]
  · rw [outsAt0_B m c t h0]; dsimp only; rw [out_B_3]
theorem after_4 (c : Dev nD) (t : Fin cfg0.N) : (dats m 0 c).after 4 t = codesAt m c t := by
  rw [after0_4, codesAt]
  by_cases h0 : t.val % 7 = 0
  · rw [if_pos h0, outsAt0_A m c t h0]; dsimp only; rw [out_A_4]
  · rw [if_neg h0, outsAt0_B m c t h0]; dsimp only; rw [out_B_4]
theorem after_5 (c : Dev nD) (t : Fin cfg0.N) : (dats m 0 c).after 5 t
    = quantOf (F := Ideal) (iblk m c 0 t) (iblk m c 1 t) (iblk m c 2 t) (codesAt m c t) := by
  rw [after0_5, codesAt]
  by_cases h0 : t.val % 7 = 0
  · rw [if_pos h0, outsAt0_A m c t h0]; dsimp only; rw [out_A_5]
  · rw [if_neg h0, outsAt0_B m c t h0]; dsimp only; rw [out_B_5]
theorem after_6 (c : Dev nD) (t : Fin cfg0.N) : (dats m 0 c).after 6 t
    = lossOf (F := Ideal) (iblk m c 0 t) (iblk m c 1 t) (iblk m c 2 t) (codesAt m c t) := by
  rw [after0_6, codesAt]
  by_cases h0 : t.val % 7 = 0
  · rw [if_pos h0, outsAt0_A m c t h0]; dsimp only; rw [out_A_6]
  · rw [if_neg h0, outsAt0_B m c t h0]; dsimp only; rw [out_B_6]

/-- The index column of a point holds its pixels' codes. -/
theorem codesAt_apply (c : Dev nD) (t : Fin cfg0.N) (p : Fin 7168) :
    codesAt m c t (ix2 p 0) = BitVec.ofNat 32 (codeOf (argA m c) (argB m c) (pix (part t) p)).val := by
  have hn := KernelPayloads.nearest (iblk m c 0 t) (iblk m c 1 t) (iblk m c 2 t) (block_lanes m c t) p
  simp only [block_x, block_w] at hn
  unfold codesAt
  by_cases h0 : t.val % 7 = 0
  · rw [if_pos h0, codesA]
    refine (KernelPayloads.clamp _ p _ (Fin.isLt _) hn).trans ?_
    rw [← bound_pix_first (part t) h0 p]
    rfl
  · rw [if_neg h0, codesB]
    refine hn.trans (congrArg (BitVec.ofNat 32) ?_)
    show _ = min _ (bound ((pix (part t) p).val / 224 % 224))
    rw [bound_pix_other (part t) h0 p]
    exact (min_eq_left (Nat.le_of_lt_succ (Fin.isLt _))).symm

/-- What a point leaves in the four output blocks, at an index. -/
theorem after_dist (c : Dev nD) (t : Fin cfg0.N) (p : Fin 7168) (j : Fin 512) :
    ((dats m 0 c).after 3 t : S7168x512.Idx → EReal) (ix2 p j)
      = dist (pixels (argA m c) (pix (part t) p)) (entries (argB m c) j) := by
  rw [after_3, KernelPayloads.distances, block_x, block_w]

theorem after_code (c : Dev nD) (t : Fin cfg0.N) (p : Fin 7168) :
    ((dats m 0 c).after 4 t : S7168x1.Idx → BitVec 32) (ix2 p 0)
      = BitVec.ofNat 32 (codeOf (argA m c) (argB m c) (pix (part t) p)).val := by
  rw [after_4, codesAt_apply]

theorem after_quant (c : Dev nD) (t : Fin cfg0.N) (p : Fin 7168) :
    ((dats m 0 c).after 5 t : S7168x1.Idx → EReal) (ix2 p 0)
      = quant (pixels (argA m c) (pix (part t) p)) (entries (argB m c) (codeOf (argA m c) (argB m c) (pix (part t) p))) := by
  rw [after_5, quantOf, k0_pay5, k0_pay6, k0_pay7]
  dsimp only
  rw [shapeCast_self, shapeCast_self, shapeCast_self,
    KernelPayloads.straight _ _ _ (block_lanes m c t) _ p _ (codesAt_apply m c t p), block_x, block_w]

theorem after_loss (c : Dev nD) (t : Fin cfg0.N) :
    ((dats m 0 c).after 6 t : S1x1x1.Idx → EReal) (ix3 0 0 0)
      = (∑ p, sqErr (pixels (argA m c) (pix (part t) p))
          (entries (argB m c) (codeOf (argA m c) (argB m c) (pix (part t) p)))) * scale := by
  rw [after_6, lossOf, k0_pay5, k0_pay6, k0_pay7]
  dsimp only
  rw [shapeCast_self, shapeCast_self, shapeCast_self,
    KernelPayloads.partLoss _ _ _ (block_lanes m c t) _ _ (codesAt_apply m c t)]
  simp only [block_x, block_w]

/-- Every pixel is in some part. -/
theorem exists_pix (n : Fin 100352) : ∃ (t : Fin cfg0.N) (p : Fin 7168), n = pix (part t) p :=
  ⟨⟨n.val / 7168, by rw [show cfg0.N = 14 from N_0]; have := n.isLt; omega⟩, ⟨n.val % 7168, Nat.mod_lt _ (by norm_num)⟩,
    Fin.ext (by show n.val = n.val / 7168 * 7168 + n.val % 7168; omega)⟩

/-- The array of distances after the run. -/
theorem arr_dist (c : Dev nD) :
    ((dats m 0 c).arrAt 3 cfg0.N : S100352x512.Idx → EReal) = distances (argA m c) (argB m c) := by
  refine (dats m 0 c).arrAt_eq_of_cover 3 (distances (argA m c) (argB m c)) (fun t _ => ?_) (fun i => ?_)
  · funext j
    obtain ⟨p, k, rfl⟩ : ∃ p k, j = (ix2 p k : S7168x512.Idx) := ⟨j 0, j 1, eq_ix2 j⟩
    refine (after_dist m c t p k).trans ?_
    show _ = distances (argA m c) (argB m c) (((cfg0.win 3).blk t).view.emb (ix2 p k))
    rw [emb3]; rfl
  · obtain ⟨n, k, rfl⟩ : ∃ n k, i = (ix2 n k : S100352x512.Idx) := ⟨i 0, i 1, eq_ix2 i⟩
    obtain ⟨t, p, rfl⟩ := exists_pix n
    refine ⟨t, flush0_3 t, ?_⟩
    have := ((cfg0.win 3).blk t).view.emb_mem_set (ix2 p k : S7168x512.Idx)
    rwa [emb3] at this

/-- The column of codes after the run. -/
theorem arr_code (c : Dev nD) :
    ((dats m 0 c).arrAt 4 cfg0.N : S100352x1.Idx → BitVec 32)
      = fun i => BitVec.ofNat 32 (codeOf (argA m c) (argB m c) (i 0)).val := by
  refine (dats m 0 c).arrAt_eq_of_cover 4 (fun i : S100352x1.Idx => BitVec.ofNat 32 (codeOf (argA m c) (argB m c) (i 0)).val)
    (fun t _ => ?_) (fun i => ?_)
  · funext j
    obtain ⟨p, rfl⟩ : ∃ p, j = (ix2 p 0 : S7168x1.Idx) := ⟨j 0, (eq_ix2 j).trans (by congr 1; exact Subsingleton.elim _ _)⟩
    refine (after_code m c t p).trans ?_
    show _ = (fun i : S100352x1.Idx => BitVec.ofNat 32 (codeOf (argA m c) (argB m c) (i 0)).val)
      (((cfg0.win 4).blk t).view.emb (ix2 p 0))
    rw [emb4]; rfl
  · obtain ⟨n, rfl⟩ : ∃ n, i = (ix2 n 0 : S100352x1.Idx) := ⟨i 0, (eq_ix2 i).trans (by congr 1; exact Subsingleton.elim _ _)⟩
    obtain ⟨t, p, rfl⟩ := exists_pix n
    refine ⟨t, flush0_4 t, ?_⟩
    have := ((cfg0.win 4).blk t).view.emb_mem_set (ix2 p 0 : S7168x1.Idx)
    rwa [emb4] at this

/-- The column of straight-through values after the run. -/
theorem arr_quant (c : Dev nD) :
    ((dats m 0 c).arrAt 5 cfg0.N : S100352x1.Idx → EReal)
      = fun i => quant (pixels (argA m c) (i 0)) (entries (argB m c) (codeOf (argA m c) (argB m c) (i 0))) := by
  refine (dats m 0 c).arrAt_eq_of_cover 5 (fun i : S100352x1.Idx =>
      quant (pixels (argA m c) (i 0)) (entries (argB m c) (codeOf (argA m c) (argB m c) (i 0))))
    (fun t _ => ?_) (fun i => ?_)
  · funext j
    obtain ⟨p, rfl⟩ : ∃ p, j = (ix2 p 0 : S7168x1.Idx) := ⟨j 0, (eq_ix2 j).trans (by congr 1; exact Subsingleton.elim _ _)⟩
    refine (after_quant m c t p).trans ?_
    show _ = (fun i : S100352x1.Idx =>
        quant (pixels (argA m c) (i 0)) (entries (argB m c) (codeOf (argA m c) (argB m c) (i 0))))
      (((cfg0.win 5).blk t).view.emb (ix2 p 0))
    rw [emb5]; rfl
  · obtain ⟨n, rfl⟩ : ∃ n, i = (ix2 n 0 : S100352x1.Idx) := ⟨i 0, (eq_ix2 i).trans (by congr 1; exact Subsingleton.elim _ _)⟩
    obtain ⟨t, p, rfl⟩ := exists_pix n
    refine ⟨t, flush0_5 t, ?_⟩
    have := ((cfg0.win 5).blk t).view.emb_mem_set (ix2 p 0 : S7168x1.Idx)
    rwa [emb5] at this

/-- The fourteen parts of the loss after the run. -/
theorem arr_loss (c : Dev nD) :
    ((dats m 0 c).arrAt 6 cfg0.N : S14x1x1.Idx → EReal)
      = fun i => (∑ p, sqErr (pixels (argA m c) (pix (i 0) p))
          (entries (argB m c) (codeOf (argA m c) (argB m c) (pix (i 0) p)))) * scale := by
  refine (dats m 0 c).arrAt_eq_of_cover 6 (fun i : S14x1x1.Idx => (∑ p, sqErr (pixels (argA m c) (pix (i 0) p))
          (entries (argB m c) (codeOf (argA m c) (argB m c) (pix (i 0) p)))) * scale)
    (fun t _ => ?_) (fun i => ?_)
  · funext j
    obtain rfl : j = (ix3 0 0 0 : S1x1x1.Idx) := (eq_ix3 j).trans (by congr 1 <;> exact Subsingleton.elim _ _)
    refine (after_loss m c t).trans ?_
    show _ = (fun i : S14x1x1.Idx => (∑ p, sqErr (pixels (argA m c) (pix (i 0) p))
          (entries (argB m c) (codeOf (argA m c) (argB m c) (pix (i 0) p)))) * scale)
      (((cfg0.win 6).blk t).view.emb (ix3 0 0 0))
    rw [emb6]; rfl
  · obtain ⟨t, rfl⟩ : ∃ t : Fin cfg0.N, i = (ix3 (part t) 0 0 : S14x1x1.Idx) :=
      ⟨⟨(i 0).val, lt_of_lt_of_eq (i 0).isLt N_0.symm⟩,
        (eq_ix3 i).trans (by congr 1 <;> exact Subsingleton.elim _ _)⟩
    refine ⟨t, flush0_6 t, ?_⟩
    have := ((cfg0.win 6).blk t).view.emb_mem_set (ix3 0 0 0 : S1x1x1.Idx)
    rwa [emb6] at this

end Cert.Proof.KernelArrays
-- ==== Proof.KernelRun.lean ====
/-
  The kernel program's run, over the extended reals: what the four results end with, as functions of the two arguments.
-/
module

public import proofs.«01_k».proof.Proof.KernelArrays

@[expose] public section

set_option maxRecDepth 16384

noncomputable section

open Idealize.ShloMosaic Idealize.ShloMosaic.TcCoe Idealize.SL.Sem
open Idealize.ShloMosaic.Pipeline (Dat)

namespace Cert.Proof.KernelRun
open Cert.KernelIdeal Cert.KernelIdeal.Gen Cert.Proof.Spec Cert.Proof.Results Cert.Proof.KernelArrays

variable (m : (ℓ : Loc nD τ sig) → Buf (Elt Ideal) ℓ) (ρ : Dev nD → PrngReg)

/-- The column of codes in the images' places is the result of codes. -/
theorem codes_reshape (A : (⟨4, ![2, 1, 224, 224]⟩ : Shape).Idx → EReal) (B : (⟨2, ![512, 1]⟩ : Shape).Idx → EReal) :
    shapeCast S2x224x224 (fun i : S100352x1.Idx => BitVec.ofNat 32 (codeOf A B (i 0)).val) shapeCasts_S100352x1_S2x224x224
      = codes A B := by
  funext i
  obtain ⟨b, h, v, rfl⟩ : ∃ b h v, i = (ix3 b h v : S2x224x224.Idx) := ⟨i 0, i 1, i 2, eq_ix3 i⟩
  pointwise
  rfl

/-- The column of straight-through values in the images' places is the result of straight-through values. -/
theorem quants_reshape (A : (⟨4, ![2, 1, 224, 224]⟩ : Shape).Idx → EReal) (B : (⟨2, ![512, 1]⟩ : Shape).Idx → EReal) :
    shapeCast S2x1x224x224 (fun i : S100352x1.Idx => quant (pixels A (i 0)) (entries B (codeOf A B (i 0))))
        shapeCasts_S100352x1_S2x1x224x224
      = quants A B := by
  funext i
  obtain ⟨b, u, h, v, rfl⟩ : ∃ b u h v, i = (ix4 b u h v : S2x1x224x224.Idx) := ⟨i 0, i 1, i 2, i 3, eq_ix4 i⟩
  pointwise
  rfl

/-- The host's sum of the fourteen parts is the loss. -/
theorem loss_sum (A : (⟨4, ![2, 1, 224, 224]⟩ : Shape).Idx → EReal) (B : (⟨2, ![512, 1]⟩ : Shape).Idx → EReal) :
    Host.reduceAdd (F := Ideal) (φ := .f32) (fun i : S14x1x1.Idx => (∑ p, sqErr (pixels A (pix (i 0) p))
          (entries B (codeOf A B (pix (i 0) p)))) * scale) (constant (F := Ideal) S_ .f32 0x00000000#32) reducesTo_S14x1x1_S_d0_1_2 h_S_
      = lossOut A B := by
  funext i
  pointwise
  simp only [Fintype.sum_unique]
  exact (loss_eq_parts (pixels A) (entries B)).symm

/-- Different windows stand over different arrays. -/
theorem arr_injective : Function.Injective (Pipeline.arrRef spec0) := by decide +kernel

/-- The result of codes. -/
theorem res_codes (c : Dev nD) :
    (Pipeline.afterTail₀ cfgs (dats m) 0 (V0 m) [hostOps1] c main_v5 : S2x224x224.Idx → BitVec 32)
      = codes (argA m c) (argB m c) := by
  unfold Pipeline.afterTail₀
  show StableHlo.after (hostOps1 (F := Ideal)) _ (Proc.devRef .tc main_v5) = _
  unfold hostOps1
  after_results
  have h := (Pipeline.withArrays_arr (cfgs 0).spec arr_injective c (V0 m c) (fun w => (dats m 0 c).arrAt w (cfgs 0).N) 4).trans
    (arr_code m c)
  refine Eq.trans ?_ (codes_reshape (argA m c) (argB m c))
  exact congrArg (fun v : S100352x1.Idx → BitVec 32 => shapeCast S2x224x224 v shapeCasts_S100352x1_S2x224x224) h

/-- The result of straight-through values. -/
theorem res_quants (c : Dev nD) :
    (Pipeline.afterTail₀ cfgs (dats m) 0 (V0 m) [hostOps1] c main_v6 : S2x1x224x224.Idx → EReal)
      = quants (argA m c) (argB m c) := by
  unfold Pipeline.afterTail₀
  show StableHlo.after (hostOps1 (F := Ideal)) _ (Proc.devRef .tc main_v6) = _
  unfold hostOps1
  after_results
  have h := (Pipeline.withArrays_arr (cfgs 0).spec arr_injective c (V0 m c) (fun w => (dats m 0 c).arrAt w (cfgs 0).N) 5).trans
    (arr_quant m c)
  refine Eq.trans ?_ (quants_reshape (argA m c) (argB m c))
  exact congrArg (fun v : S100352x1.Idx → EReal => shapeCast S2x1x224x224 v shapeCasts_S100352x1_S2x1x224x224) h

/-- The result of the loss. -/
theorem res_loss (c : Dev nD) :
    (Pipeline.afterTail₀ cfgs (dats m) 0 (V0 m) [hostOps1] c main_v7 : S_.Idx → EReal)
      = lossOut (argA m c) (argB m c) := by
  unfold Pipeline.afterTail₀
  show StableHlo.after (hostOps1 (F := Ideal)) _ (Proc.devRef .tc main_v7) = _
  unfold hostOps1
  after_results
  have h := (Pipeline.withArrays_arr (cfgs 0).spec arr_injective c (V0 m c) (fun w => (dats m 0 c).arrAt w (cfgs 0).N) 6).trans
    (arr_loss m c)
  refine Eq.trans ?_ (loss_sum (argA m c) (argB m c))
  exact congrArg (fun v : S14x1x1.Idx → EReal => Host.reduceAdd (F := Ideal) (φ := .f32) v
    (constant (F := Ideal) S_ .f32 0x00000000#32) reducesTo_S14x1x1_S_d0_1_2 h_S_) h

/-- The kernel program ends with the four results at their functions of the arguments and the arguments unchanged. -/
theorem run : θ_run defs (onTc (τ := τ) (main (F := Ideal))) (s₀ m ρ) fun r => ∀ c : Dev nD,
      r.2.mem ((c : Thread nD τ).loc main_v6) = quants (argA m c) (argB m c)
      ∧ r.2.mem ((c : Thread nD τ).loc main_v5) = codes (argA m c) (argB m c)
      ∧ r.2.mem ((c : Thread nD τ).loc main_v4_0) = distances (argA m c) (argB m c)
      ∧ r.2.mem ((c : Thread nD τ).loc main_v7) = lossOut (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans (res_quants m c),
      ((h c).2 main_v5 (Pipeline.mem_restRefs_of main_v5 (by decide) (by decide))).trans (res_codes m c),
      ((h c).1 3).trans (arr_dist m c),
      ((h c).2 main_v7 (Pipeline.mem_restRefs_of main_v7 (by decide) (by decide))).trans (res_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelRun
-- ==== Proof.RefOps.lean ====
/-
  The reference program as a straight line of host operations, cut into eight stretches: the distances, the nearest
  indices, the four clamps, the look-up, and the loss with the straight-through values. Each operation is listed with
  the buffers it reads and the one it writes.
-/
module

public import proofs.«01_k».proof.Proof.Gen.ReferenceIdeal
public import Idealize.ShloMosaic.Lib.StableHlo.Run
public import Idealize.ShloMosaic.Lib.Pipeline.Regions

@[expose] public section

set_option maxRecDepth 65536

noncomputable section

open Idealize.ShloMosaic Idealize.ShloMosaic.TcCoe Idealize.ShloMosaic.StableHlo Idealize.SL.Sem

namespace Cert.Proof.RefOps
open Cert.ReferenceIdeal Cert.ReferenceIdeal.Gen

variable {F : FTy → Type} [FloatOps F]

/-- The operations of the distances. -/
abbrev opsDist : List (HloOp τ sig (Elt F)) :=
  [ unary main_arg0 main_v0 ((transpose S2x224x224x1 [0, 2, 3, 1] · transposes_S2x1x224x224_S2x224x224x1_0_2_3_1) : (⟨S2x1x224x224, .f32⟩ : BufTy).Contents (Elt F) → (⟨S2x224x224x1, .f32⟩ : BufTy).Contents (Elt F)),
    reshape main_v0 main_v1 (rfl : (.f32 : EltTy) = .f32) shapeCasts_S2x224x224x1_S100352x1,
    binary main_v1 main_v1 main_v2 (mulf : (⟨S100352x1, .f32⟩ : BufTy).Contents (Elt F) → (⟨S100352x1, .f32⟩ : BufTy).Contents (Elt F) → (⟨S100352x1, .f32⟩ : BufTy).Contents (Elt F)),
    nullary main_cst (constant S_ .f32 0x00000000#32),
    binary main_v2 main_cst main_v3 ((fun x v => Host.reduceAdd x v reducesTo_S100352x1_S100352_d1 h_S_) : (⟨S100352x1, .f32⟩ : BufTy).Contents (Elt F) → (⟨S_, .f32⟩ : BufTy).Contents (Elt F) → (⟨S100352, .f32⟩ : BufTy).Contents (Elt F)),
    unary main_v3 main_v4 (broadcastInDim S100352x1 ![0] bcast_S100352_S100352x1_0 : (⟨S100352, .f32⟩ : BufTy).Contents (Elt F) → (⟨S100352x1, .f32⟩ : BufTy).Contents (Elt F)),
    binary main_arg1 main_arg1 main_v5 (mulf : (⟨S512x1, .f32⟩ : BufTy).Contents (Elt F) → (⟨S512x1, .f32⟩ : BufTy).Contents (Elt F) → (⟨S512x1, .f32⟩ : BufTy).Contents (Elt F)),
    nullary main_cst_0 (constant S_ .f32 0x00000000#32),
    binary main_v5 main_cst_0 main_v6 ((fun x v => Host.reduceAdd x v reducesTo_S512x1_S512_d1 h_S_) : (⟨S512x1, .f32⟩ : BufTy).Contents (Elt F) → (⟨S_, .f32⟩ : BufTy).Contents (Elt F) → (⟨S512, .f32⟩ : BufTy).Contents (Elt F)),
    unary main_v6 main_v7 (broadcastInDim S1x512 ![1] bcast_S512_S1x512_1 : (⟨S512, .f32⟩ : BufTy).Contents (Elt F) → (⟨S1x512, .f32⟩ : BufTy).Contents (Elt F)),
    unary main_v4 main_v8 (broadcastInDim S100352x512 ![0, 1] bcast_S100352x1_S100352x512_0_1 : (⟨S100352x1, .f32⟩ : BufTy).Contents (Elt F) → (⟨S100352x512, .f32⟩ : BufTy).Contents (Elt F)),
    unary main_v7 main_v9 (broadcastInDim S100352x512 ![0, 1] bcast_S1x512_S100352x512_0_1 : (⟨S1x512, .f32⟩ : BufTy).Contents (Elt F) → (⟨S100352x512, .f32⟩ : BufTy).Contents (Elt F)),
    binary main_v8 main_v9 main_v10 (addf : (⟨S100352x512, .f32⟩ : BufTy).Contents (Elt F) → (⟨S100352x512, .f32⟩ : BufTy).Contents (Elt F) → (⟨S100352x512, .f32⟩ : BufTy).Contents (Elt F)),
    unary main_arg1 main_v11 ((transpose S1x512 [1, 0] · transposes_S512x1_S1x512_1_0) : (⟨S512x1, .f32⟩ : BufTy).Contents (Elt F) → (⟨S1x512, .f32⟩ : BufTy).Contents (Elt F)),
    binary main_v1 main_v11 main_v12 ((fun l r => Host.dotGeneral dot_S100352x1_S1x512_S100352x512_1_0_0_1_n_n none l r) : (⟨S100352x1, .f32⟩ : BufTy).Contents (Elt F) → (⟨S1x512, .f32⟩ : BufTy).Contents (Elt F) → (⟨S100352x512, .f32⟩ : BufTy).Contents (Elt F)),
    nullary main_cst_1 (constant S_ .f32 0x40000000#32),
    unary main_cst_1 main_v13 (broadcastInDim S100352x512 ![] bcast_S_S100352x512 : (⟨S_, .f32⟩ : BufTy).Contents (Elt F) → (⟨S100352x512, .f32⟩ : BufTy).Contents (Elt F)),
    binary main_v13 main_v12 main_v14 (mulf : (⟨S100352x512, .f32⟩ : BufTy).Contents (Elt F) → (⟨S100352x512, .f32⟩ : BufTy).Contents (Elt F) → (⟨S100352x512, .f32⟩ : BufTy).Contents (Elt F)),
    binary main_v10 main_v14 main_v15 (subf : (⟨S100352x512, .f32⟩ : BufTy).Contents (Elt F) → (⟨S100352x512, .f32⟩ : BufTy).Contents (Elt F) → (⟨S100352x512, .f32⟩ : BufTy).Contents (Elt F)) ]

/-- The operations of the nearest indices, in the images' places. -/
abbrev opsNearest : List (HloOp τ sig (Elt F)) :=
  [ nullary main_call0_v0 (iotaInDim S100352x512 32 1),
    nullary main_call0_cst (constant S_ .f32 0x7F800000#32),
    nullary main_call0_c (constantI S_ 32 0#32),
    quaternary main_v15 main_call0_v0 main_call0_cst main_call0_c main_call0_v1_0 ((fun x y u v j => (Host.argReduce reducer_argmin_f32_i32 x y u v reducesTo_S100352x512_S100352_d1 h_S_ j).1) : (⟨S100352x512, .f32⟩ : BufTy).Contents (Elt F) → (⟨S100352x512, .i32⟩ : BufTy).Contents (Elt F) → (⟨S_, .f32⟩ : BufTy).Contents (Elt F) → (⟨S_, .i32⟩ : BufTy).Contents (Elt F) → (⟨S100352, .f32⟩ : BufTy).Contents (Elt F)),
    quaternary main_v15 main_call0_v0 main_call0_cst main_call0_c main_v16 ((fun x y u v j => (Host.argReduce reducer_argmin_f32_i32 x y u v reducesTo_S100352x512_S100352_d1 h_S_ j).2) : (⟨S100352x512, .f32⟩ : BufTy).Contents (Elt F) → (⟨S100352x512, .i32⟩ : BufTy).Contents (Elt F) → (⟨S_, .f32⟩ : BufTy).Contents (Elt F) → (⟨S_, .i32⟩ : BufTy).Contents (Elt F) → (⟨S100352, .i32⟩ : BufTy).Contents (Elt F)),
    reshape main_v16 main_v17 (rfl : (.i32 : EltTy) = .i32) shapeCasts_S100352_S2x224x224 ]

/-- The operations of the clamp of row 0. -/
abbrev opsRow1 : List (HloOp τ sig (Elt F)) :=
  [ unary main_v17 main_v18 ((extractStridedSlice S2x1x224 ![0, 0, 0] · slices_S2x224x224_S2x1x224_0_0_0) : (⟨S2x224x224, .i32⟩ : BufTy).Contents (Elt F) → (⟨S2x1x224, .i32⟩ : BufTy).Contents (Elt F)),
    nullary main_c (constantI S_ 32 0#32),
    nullary main_c_2 (constantI S_ 32 1#32),
    unary main_c main_call1_v0 (id : (⟨S_, .i32⟩ : BufTy).Contents (Elt F) → (⟨S_, .i32⟩ : BufTy).Contents (Elt F)),
    unary main_call1_v0 main_call1_v1 ((broadcastInDim S2x1x224 ![] bcast_S_S2x1x224) : (⟨S_, .i32⟩ : BufTy).Contents (Elt F) → (⟨S2x1x224, .i32⟩ : BufTy).Contents (Elt F)),
    binary main_call1_v1 main_v18 main_call1_v2 (maxsi : (⟨S2x1x224, .i32⟩ : BufTy).Contents (Elt F) → (⟨S2x1x224, .i32⟩ : BufTy).Contents (Elt F) → (⟨S2x1x224, .i32⟩ : BufTy).Contents (Elt F)),
    unary main_c_2 main_call1_v3 (id : (⟨S_, .i32⟩ : BufTy).Contents (Elt F) → (⟨S_, .i32⟩ : BufTy).Contents (Elt F)),
    unary main_call1_v3 main_call1_v4 ((broadcastInDim S2x1x224 ![] bcast_S_S2x1x224) : (⟨S_, .i32⟩ : BufTy).Contents (Elt F) → (⟨S2x1x224, .i32⟩ : BufTy).Contents (Elt F)),
    binary main_call1_v4 main_call1_v2 main_v19 (minsi : (⟨S2x1x224, .i32⟩ : BufTy).Contents (Elt F) → (⟨S2x1x224, .i32⟩ : BufTy).Contents (Elt F) → (⟨S2x1x224, .i32⟩ : BufTy).Contents (Elt F)),
    nullary main_c_3 (constantI S_ 32 0#32),
    unary main_c_3 main_v20 (broadcastInDim S1 ![] bcast_S_S1 : (⟨S_, .i32⟩ : BufTy).Contents (Elt F) → (⟨S1, .i32⟩ : BufTy).Contents (Elt F)),
    ternary main_v17 main_v20 main_v19 main_v21 ((fun x i u => Host.scatter scatter_S2x224x224_S1_S2x1x224_012_n_1_0 (fun _ b => b) x i u) : (⟨S2x224x224, .i32⟩ : BufTy).Contents (Elt F) → (⟨S1, .i32⟩ : BufTy).Contents (Elt F) → (⟨S2x1x224, .i32⟩ : BufTy).Contents (Elt F) → (⟨S2x224x224, .i32⟩ : BufTy).Contents (Elt F)) ]

/-- The operations of the clamp of rows 0 and 1. -/
abbrev opsRow2 : List (HloOp τ sig (Elt F)) :=
  [ unary main_v21 main_v22 ((extractStridedSlice S2x2x224 ![0, 0, 0] · slices_S2x224x224_S2x2x224_0_0_0) : (⟨S2x224x224, .i32⟩ : BufTy).Contents (Elt F) → (⟨S2x2x224, .i32⟩ : BufTy).Contents (Elt F)),
    nullary main_c_4 (constantI S_ 32 0#32),
    nullary main_c_5 (constantI S_ 32 3#32),
    unary main_c_4 main_call2_v0 (id : (⟨S_, .i32⟩ : BufTy).Contents (Elt F) → (⟨S_, .i32⟩ : BufTy).Contents (Elt F)),
    unary main_call2_v0 main_call2_v1 ((broadcastInDim S2x2x224 ![] bcast_S_S2x2x224) : (⟨S_, .i32⟩ : BufTy).Contents (Elt F) → (⟨S2x2x224, .i32⟩ : BufTy).Contents (Elt F)),
    binary main_call2_v1 main_v22 main_call2_v2 (maxsi : (⟨S2x2x224, .i32⟩ : BufTy).Contents (Elt F) → (⟨S2x2x224, .i32⟩ : BufTy).Contents (Elt F) → (⟨S2x2x224, .i32⟩ : BufTy).Contents (Elt F)),
    unary main_c_5 main_call2_v3 (id : (⟨S_, .i32⟩ : BufTy).Contents (Elt F) → (⟨S_, .i32⟩ : BufTy).Contents (Elt F)),
    unary main_call2_v3 main_call2_v4 ((broadcastInDim S2x2x224 ![] bcast_S_S2x2x224) : (⟨S_, .i32⟩ : BufTy).Contents (Elt F) → (⟨S2x2x224, .i32⟩ : BufTy).Contents (Elt F)),
    binary main_call2_v4 main_call2_v2 main_v23 (minsi : (⟨S2x2x224, .i32⟩ : BufTy).Contents (Elt F) → (⟨S2x2x224, .i32⟩ : BufTy).Contents (Elt F) → (⟨S2x2x224, .i32⟩ : BufTy).Contents (Elt F)),
    nullary main_c_6 (constantI S_ 32 0#32),
    unary main_c_6 main_v24 (broadcastInDim S1 ![] bcast_S_S1 : (⟨S_, .i32⟩ : BufTy).Contents (Elt F) → (⟨S1, .i32⟩ : BufTy).Contents (Elt F)),
    ternary main_v21 main_v24 main_v23 main_v25 ((fun x i u => Host.scatter scatter_S2x224x224_S1_S2x2x224_012_n_1_0 (fun _ b => b) x i u) : (⟨S2x224x224, .i32⟩ : BufTy).Contents (Elt F) → (⟨S1, .i32⟩ : BufTy).Contents (Elt F) → (⟨S2x2x224, .i32⟩ : BufTy).Contents (Elt F) → (⟨S2x224x224, .i32⟩ : BufTy).Contents (Elt F)) ]

/-- The operations of the clamp of rows 0 to 2. -/
abbrev opsRow3 : List (HloOp τ sig (Elt F)) :=
  [ unary main_v25 main_v26 ((extractStridedSlice S2x3x224 ![0, 0, 0] · slices_S2x224x224_S2x3x224_0_0_0) : (⟨S2x224x224, .i32⟩ : BufTy).Contents (Elt F) → (⟨S2x3x224, .i32⟩ : BufTy).Contents (Elt F)),
    nullary main_c_7 (constantI S_ 32 0#32),
    nullary main_c_8 (constantI S_ 32 5#32),
    unary main_c_7 main_call3_v0 (id : (⟨S_, .i32⟩ : BufTy).Contents (Elt F) → (⟨S_, .i32⟩ : BufTy).Contents (Elt F)),
    unary main_call3_v0 main_call3_v1 ((broadcastInDim S2x3x224 ![] bcast_S_S2x3x224) : (⟨S_, .i32⟩ : BufTy).Contents (Elt F) → (⟨S2x3x224, .i32⟩ : BufTy).Contents (Elt F)),
    binary main_call3_v1 main_v26 main_call3_v2 (maxsi : (⟨S2x3x224, .i32⟩ : BufTy).Contents (Elt F) → (⟨S2x3x224, .i32⟩ : BufTy).Contents (Elt F) → (⟨S2x3x224, .i32⟩ : BufTy).Contents (Elt F)),
    unary main_c_8 main_call3_v3 (id : (⟨S_, .i32⟩ : BufTy).Contents (Elt F) → (⟨S_, .i32⟩ : BufTy).Contents (Elt F)),
    unary main_call3_v3 main_call3_v4 ((broadcastInDim S2x3x224 ![] bcast_S_S2x3x224) : (⟨S_, .i32⟩ : BufTy).Contents (Elt F) → (⟨S2x3x224, .i32⟩ : BufTy).Contents (Elt F)),
    binary main_call3_v4 main_call3_v2 main_v27 (minsi : (⟨S2x3x224, .i32⟩ : BufTy).Contents (Elt F) → (⟨S2x3x224, .i32⟩ : BufTy).Contents (Elt F) → (⟨S2x3x224, .i32⟩ : BufTy).Contents (Elt F)),
    nullary main_c_9 (constantI S_ 32 0#32),
    unary main_c_9 main_v28 (broadcastInDim S1 ![] bcast_S_S1 : (⟨S_, .i32⟩ : BufTy).Contents (Elt F) → (⟨S1, .i32⟩ : BufTy).Contents (Elt F)),
    ternary main_v25 main_v28 main_v27 main_v29 ((fun x i u => Host.scatter scatter_S2x224x224_S1_S2x3x224_012_n_1_0 (fun _ b => b) x i u) : (⟨S2x224x224, .i32⟩ : BufTy).Contents (Elt F) → (⟨S1, .i32⟩ : BufTy).Contents (Elt F) → (⟨S2x3x224, .i32⟩ : BufTy).Contents (Elt F) → (⟨S2x224x224, .i32⟩ : BufTy).Contents (Elt F)) ]

/-- The operations of the clamp of rows 0 to 3. -/
abbrev opsRow4 : List (HloOp τ sig (Elt F)) :=
  [ unary main_v29 main_v30 ((extractStridedSlice S2x4x224 ![0, 0, 0] · slices_S2x224x224_S2x4x224_0_0_0) : (⟨S2x224x224, .i32⟩ : BufTy).Contents (Elt F) → (⟨S2x4x224, .i32⟩ : BufTy).Contents (Elt F)),
    nullary main_c_10 (constantI S_ 32 0#32),
    nullary main_c_11 (constantI S_ 32 7#32),
    unary main_c_10 main_call4_v0 (id : (⟨S_, .i32⟩ : BufTy).Contents (Elt F) → (⟨S_, .i32⟩ : BufTy).Contents (Elt F)),
    unary main_call4_v0 main_call4_v1 ((broadcastInDim S2x4x224 ![] bcast_S_S2x4x224) : (⟨S_, .i32⟩ : BufTy).Contents (Elt F) → (⟨S2x4x224, .i32⟩ : BufTy).Contents (Elt F)),
    binary main_call4_v1 main_v30 main_call4_v2 (maxsi : (⟨S2x4x224, .i32⟩ : BufTy).Contents (Elt F) → (⟨S2x4x224, .i32⟩ : BufTy).Contents (Elt F) → (⟨S2x4x224, .i32⟩ : BufTy).Contents (Elt F)),
    unary main_c_11 main_call4_v3 (id : (⟨S_, .i32⟩ : BufTy).Contents (Elt F) → (⟨S_, .i32⟩ : BufTy).Contents (Elt F)),
    unary main_call4_v3 main_call4_v4 ((broadcastInDim S2x4x224 ![] bcast_S_S2x4x224) : (⟨S_, .i32⟩ : BufTy).Contents (Elt F) → (⟨S2x4x224, .i32⟩ : BufTy).Contents (Elt F)),
    binary main_call4_v4 main_call4_v2 main_v31 (minsi : (⟨S2x4x224, .i32⟩ : BufTy).Contents (Elt F) → (⟨S2x4x224, .i32⟩ : BufTy).Contents (Elt F) → (⟨S2x4x224, .i32⟩ : BufTy).Contents (Elt F)),
    nullary main_c_12 (constantI S_ 32 0#32),
    unary main_c_12 main_v32 (broadcastInDim S1 ![] bcast_S_S1 : (⟨S_, .i32⟩ : BufTy).Contents (Elt F) → (⟨S1, .i32⟩ : BufTy).Contents (Elt F)),
    ternary main_v29 main_v32 main_v31 main_v33 ((fun x i u => Host.scatter scatter_S2x224x224_S1_S2x4x224_012_n_1_0 (fun _ b => b) x i u) : (⟨S2x224x224, .i32⟩ : BufTy).Contents (Elt F) → (⟨S1, .i32⟩ : BufTy).Contents (Elt F) → (⟨S2x4x224, .i32⟩ : BufTy).Contents (Elt F) → (⟨S2x224x224, .i32⟩ : BufTy).Contents (Elt F)) ]

/-- The operations of the look-up in the codebook. -/
abbrev opsTake : List (HloOp τ sig (Elt F)) :=
  [ nullary main_call5_c (constantI S_ 32 0#32),
    unary main_call5_c main_call5_v0 ((broadcastInDim S2x224x224 ![] bcast_S_S2x224x224) : (⟨S_, .i32⟩ : BufTy).Contents (Elt F) → (⟨S2x224x224, .i32⟩ : BufTy).Contents (Elt F)),
    binary main_v33 main_call5_v0 main_call5_v1 ((cmpi .slt) : (⟨S2x224x224, .i32⟩ : BufTy).Contents (Elt F) → (⟨S2x224x224, .i32⟩ : BufTy).Contents (Elt F) → (⟨S2x224x224, .i1⟩ : BufTy).Contents (Elt F)),
    nullary main_call5_c_0 (constantI S_ 32 512#32),
    unary main_call5_c_0 main_call5_v2 ((broadcastInDim S2x224x224 ![] bcast_S_S2x224x224) : (⟨S_, .i32⟩ : BufTy).Contents (Elt F) → (⟨S2x224x224, .i32⟩ : BufTy).Contents (Elt F)),
    binary main_v33 main_call5_v2 main_call5_v3 (addi : (⟨S2x224x224, .i32⟩ : BufTy).Contents (Elt F) → (⟨S2x224x224, .i32⟩ : BufTy).Contents (Elt F) → (⟨S2x224x224, .i32⟩ : BufTy).Contents (Elt F)),
    ternary main_call5_v1 main_call5_v3 main_v33 main_call5_v4 (select : (⟨S2x224x224, .i1⟩ : BufTy).Contents (Elt F) → (⟨S2x224x224, .i32⟩ : BufTy).Contents (Elt F) → (⟨S2x224x224, .i32⟩ : BufTy).Contents (Elt F) → (⟨S2x224x224, .i32⟩ : BufTy).Contents (Elt F)),
    unary main_call5_v4 main_call5_v5 ((broadcastInDim S2x224x224x1 ![0, 1, 2] bcast_S2x224x224_S2x224x224x1_0_1_2) : (⟨S2x224x224, .i32⟩ : BufTy).Contents (Elt F) → (⟨S2x224x224x1, .i32⟩ : BufTy).Contents (Elt F)),
    nullary main_call5_c_1 (constantI S1 32 511#32),
    nullary main_call5_c_2 (constantI S_ 32 0#32),
    unary main_call5_c_2 main_call5_v6 ((broadcastInDim S2x224x224x1 ![] bcast_S_S2x224x224x1) : (⟨S_, .i32⟩ : BufTy).Contents (Elt F) → (⟨S2x224x224x1, .i32⟩ : BufTy).Contents (Elt F)),
    binary main_call5_v5 main_call5_v6 main_call5_v7 ((cmpi .sge) : (⟨S2x224x224x1, .i32⟩ : BufTy).Contents (Elt F) → (⟨S2x224x224x1, .i32⟩ : BufTy).Contents (Elt F) → (⟨S2x224x224x1, .i1⟩ : BufTy).Contents (Elt F)),
    unary main_call5_c_1 main_call5_v8 ((broadcastInDim S1x1x1x1 ![3] bcast_S1_S1x1x1x1_3) : (⟨S1, .i32⟩ : BufTy).Contents (Elt F) → (⟨S1x1x1x1, .i32⟩ : BufTy).Contents (Elt F)),
    unary main_call5_v8 main_call5_v9 ((broadcastInDim S2x224x224x1 ![0, 1, 2, 3] bcast_S1x1x1x1_S2x224x224x1_0_1_2_3) : (⟨S1x1x1x1, .i32⟩ : BufTy).Contents (Elt F) → (⟨S2x224x224x1, .i32⟩ : BufTy).Contents (Elt F)),
    binary main_call5_v5 main_call5_v9 main_call5_v10 ((cmpi .sle) : (⟨S2x224x224x1, .i32⟩ : BufTy).Contents (Elt F) → (⟨S2x224x224x1, .i32⟩ : BufTy).Contents (Elt F) → (⟨S2x224x224x1, .i1⟩ : BufTy).Contents (Elt F)),
    binary main_call5_v7 main_call5_v10 main_call5_v11 (andi : (⟨S2x224x224x1, .i1⟩ : BufTy).Contents (Elt F) → (⟨S2x224x224x1, .i1⟩ : BufTy).Contents (Elt F) → (⟨S2x224x224x1, .i1⟩ : BufTy).Contents (Elt F)),
    nullary main_call5_c_3 (constantI S_ 1 1#1),
    binary main_call5_v11 main_call5_c_3 main_call5_v12 ((fun x v => Host.reduce IntOp.andi x v reducesTo_S2x224x224x1_S2x224x224_d3 h_S_) : (⟨S2x224x224x1, .i1⟩ : BufTy).Contents (Elt F) → (⟨S_, .i1⟩ : BufTy).Contents (Elt F) → (⟨S2x224x224, .i1⟩ : BufTy).Contents (Elt F)),
    binary main_arg1 main_call5_v5 main_call5_v13 ((fun x i => Host.gather gather_S512x1_S2x224x224x1_S2x224x224x1_3_0_n_n_0_3_11 x i) : (⟨S512x1, .f32⟩ : BufTy).Contents (Elt F) → (⟨S2x224x224x1, .i32⟩ : BufTy).Contents (Elt F) → (⟨S2x224x224x1, .f32⟩ : BufTy).Contents (Elt F)),
    unary main_call5_v12 main_call5_v14 ((broadcastInDim S2x224x224x1 ![0, 1, 2] bcast_S2x224x224_S2x224x224x1_0_1_2) : (⟨S2x224x224, .i1⟩ : BufTy).Contents (Elt F) → (⟨S2x224x224x1, .i1⟩ : BufTy).Contents (Elt F)),
    nullary main_call5_cst (constant S_ .f32 0x7FC00000#32),
    unary main_call5_cst main_call5_v15 ((broadcastInDim S2x224x224x1 ![] bcast_S_S2x224x224x1) : (⟨S_, .f32⟩ : BufTy).Contents (Elt F) → (⟨S2x224x224x1, .f32⟩ : BufTy).Contents (Elt F)),
    ternary main_call5_v14 main_call5_v13 main_call5_v15 main_v34 (select : (⟨S2x224x224x1, .i1⟩ : BufTy).Contents (Elt F) → (⟨S2x224x224x1, .f32⟩ : BufTy).Contents (Elt F) → (⟨S2x224x224x1, .f32⟩ : BufTy).Contents (Elt F) → (⟨S2x224x224x1, .f32⟩ : BufTy).Contents (Elt F)) ]

/-- The operations of the loss and the straight-through values. -/
abbrev opsOut : List (HloOp τ sig (Elt F)) :=
  [ unary main_v34 main_v35 ((transpose S2x1x224x224 [0, 3, 1, 2] · transposes_S2x224x224x1_S2x1x224x224_0_3_1_2) : (⟨S2x224x224x1, .f32⟩ : BufTy).Contents (Elt F) → (⟨S2x1x224x224, .f32⟩ : BufTy).Contents (Elt F)),
    binary main_v35 main_arg0 main_v36 (subf : (⟨S2x1x224x224, .f32⟩ : BufTy).Contents (Elt F) → (⟨S2x1x224x224, .f32⟩ : BufTy).Contents (Elt F) → (⟨S2x1x224x224, .f32⟩ : BufTy).Contents (Elt F)),
    binary main_v36 main_v36 main_v37 (mulf : (⟨S2x1x224x224, .f32⟩ : BufTy).Contents (Elt F) → (⟨S2x1x224x224, .f32⟩ : BufTy).Contents (Elt F) → (⟨S2x1x224x224, .f32⟩ : BufTy).Contents (Elt F)),
    nullary main_cst_13 (constant S_ .f32 0x00000000#32),
    binary main_v37 main_cst_13 main_v38 ((fun x v => Host.reduceAdd x v reducesTo_S2x1x224x224_S_d0_1_2_3 h_S_) : (⟨S2x1x224x224, .f32⟩ : BufTy).Contents (Elt F) → (⟨S_, .f32⟩ : BufTy).Contents (Elt F) → (⟨S_, .f32⟩ : BufTy).Contents (Elt F)),
    nullary main_cst_14 (constant S_ .f32 0x47C40000#32),
    binary main_v38 main_cst_14 main_v39 (Host.divf : (⟨S_, .f32⟩ : BufTy).Contents (Elt F) → (⟨S_, .f32⟩ : BufTy).Contents (Elt F) → (⟨S_, .f32⟩ : BufTy).Contents (Elt F)),
    binary main_v35 main_arg0 main_v40 (subf : (⟨S2x1x224x224, .f32⟩ : BufTy).Contents (Elt F) → (⟨S2x1x224x224, .f32⟩ : BufTy).Contents (Elt F) → (⟨S2x1x224x224, .f32⟩ : BufTy).Contents (Elt F)),
    binary main_v40 main_v40 main_v41 (mulf : (⟨S2x1x224x224, .f32⟩ : BufTy).Contents (Elt F) → (⟨S2x1x224x224, .f32⟩ : BufTy).Contents (Elt F) → (⟨S2x1x224x224, .f32⟩ : BufTy).Contents (Elt F)),
    nullary main_cst_15 (constant S_ .f32 0x00000000#32),
    binary main_v41 main_cst_15 main_v42 ((fun x v => Host.reduceAdd x v reducesTo_S2x1x224x224_S_d0_1_2_3 h_S_) : (⟨S2x1x224x224, .f32⟩ : BufTy).Contents (Elt F) → (⟨S_, .f32⟩ : BufTy).Contents (Elt F) → (⟨S_, .f32⟩ : BufTy).Contents (Elt F)),
    nullary main_cst_16 (constant S_ .f32 0x47C40000#32),
    binary main_v42 main_cst_16 main_v43 (Host.divf : (⟨S_, .f32⟩ : BufTy).Contents (Elt F) → (⟨S_, .f32⟩ : BufTy).Contents (Elt F) → (⟨S_, .f32⟩ : BufTy).Contents (Elt F)),
    binary main_v39 main_v43 main_v44 (addf : (⟨S_, .f32⟩ : BufTy).Contents (Elt F) → (⟨S_, .f32⟩ : BufTy).Contents (Elt F) → (⟨S_, .f32⟩ : BufTy).Contents (Elt F)),
    binary main_v35 main_arg0 main_v45 (subf : (⟨S2x1x224x224, .f32⟩ : BufTy).Contents (Elt F) → (⟨S2x1x224x224, .f32⟩ : BufTy).Contents (Elt F) → (⟨S2x1x224x224, .f32⟩ : BufTy).Contents (Elt F)),
    binary main_arg0 main_v45 main_v46 (addf : (⟨S2x1x224x224, .f32⟩ : BufTy).Contents (Elt F) → (⟨S2x1x224x224, .f32⟩ : BufTy).Contents (Elt F) → (⟨S2x1x224x224, .f32⟩ : BufTy).Contents (Elt F)) ]

/-- They touch the buffers of the device's core only. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub ..⟩

/-- They touch the buffers of the device's core only. -/
theorem opsNearest_sub : (opsNearest : List (HloOp τ sig (Elt F))).Forall fun op => op.bufs ⊆ tcRefs τ sig :=
  ⟨nullary_bufs_sub .., nullary_bufs_sub .., nullary_bufs_sub .., quaternary_bufs_sub .., quaternary_bufs_sub ..,
    reshape_bufs_sub ..⟩

/-- They touch the buffers of the device's core only. -/
theorem opsRow1_sub : (opsRow1 : List (HloOp τ sig (Elt F))).Forall fun op => op.bufs ⊆ tcRefs τ sig :=
  ⟨unary_bufs_sub .., nullary_bufs_sub .., nullary_bufs_sub .., unary_bufs_sub .., unary_bufs_sub ..,
    binary_bufs_sub .., unary_bufs_sub .., unary_bufs_sub .., binary_bufs_sub .., nullary_bufs_sub ..,
    unary_bufs_sub .., ternary_bufs_sub ..⟩

/-- They touch the buffers of the device's core only. -/
theorem opsRow2_sub : (opsRow2 : List (HloOp τ sig (Elt F))).Forall fun op => op.bufs ⊆ tcRefs τ sig :=
  ⟨unary_bufs_sub .., nullary_bufs_sub .., nullary_bufs_sub .., unary_bufs_sub .., unary_bufs_sub ..,
    binary_bufs_sub .., unary_bufs_sub .., unary_bufs_sub .., binary_bufs_sub .., nullary_bufs_sub ..,
    unary_bufs_sub .., ternary_bufs_sub ..⟩

/-- They touch the buffers of the device's core only. -/
theorem opsRow3_sub : (opsRow3 : List (HloOp τ sig (Elt F))).Forall fun op => op.bufs ⊆ tcRefs τ sig :=
  ⟨unary_bufs_sub .., nullary_bufs_sub .., nullary_bufs_sub .., unary_bufs_sub .., unary_bufs_sub ..,
    binary_bufs_sub .., unary_bufs_sub .., unary_bufs_sub .., binary_bufs_sub .., nullary_bufs_sub ..,
    unary_bufs_sub .., ternary_bufs_sub ..⟩

/-- They touch the buffers of the device's core only. -/
theorem opsRow4_sub : (opsRow4 : List (HloOp τ sig (Elt F))).Forall fun op => op.bufs ⊆ tcRefs τ sig :=
  ⟨unary_bufs_sub .., nullary_bufs_sub .., nullary_bufs_sub .., unary_bufs_sub .., unary_bufs_sub ..,
    binary_bufs_sub .., unary_bufs_sub .., unary_bufs_sub .., binary_bufs_sub .., nullary_bufs_sub ..,
    unary_bufs_sub .., ternary_bufs_sub ..⟩

/-- They touch the buffers of the device's core only. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., unary_bufs_sub ..,
    nullary_bufs_sub .., unary_bufs_sub .., ternary_bufs_sub ..⟩

/-- They touch the buffers of the device's core only. -/
theorem opsOut_sub : (opsOut : List (HloOp τ sig (Elt F))).Forall fun op => op.bufs ⊆ tcRefs τ sig :=
  ⟨unary_bufs_sub .., binary_bufs_sub .., binary_bufs_sub .., nullary_bufs_sub .., binary_bufs_sub ..,
    nullary_bufs_sub .., binary_bufs_sub .., binary_bufs_sub .., binary_bufs_sub .., nullary_bufs_sub ..,
    binary_bufs_sub .., nullary_bufs_sub .., binary_bufs_sub .., binary_bufs_sub .., binary_bufs_sub ..,
    binary_bufs_sub ..⟩

/-- All operations of the reference program, in order. -/
abbrev ops : List (HloOp τ sig (Elt F)) :=
  opsDist ++ (opsNearest ++ (opsRow1 ++ (opsRow2 ++ (opsRow3 ++ (opsRow4 ++ (opsTake ++ (opsOut)))))))

/-- The reference program is the eight stretches run one after the other. -/
theorem main_chain (c : Dev nD) : main (F := F) c = Pipeline.chain
    [seq opsDist, seq opsNearest, seq opsRow1, seq opsRow2, seq opsRow3, seq opsRow4, seq opsTake, seq opsOut] := by
  rewrite [chain_seq_cons, chain_seq_cons, chain_seq_cons, chain_seq_cons, chain_seq_cons, chain_seq_cons,
    chain_seq_cons, chain_seq_cons]
  chain_rfl

/-- So it is one straight line. -/
theorem main_eq (c : Dev nD) : main (F := F) c = seq ops := by
  rw [main_chain, seq_append, seq_append, seq_append, seq_append, seq_append, seq_append, seq_append]
  simp only [Pipeline.chain, bind_pure_unit]

theorem ops_sub : (ops : List (HloOp τ sig (Elt F))).Forall fun op => op.bufs ⊆ tcRefs τ sig :=
  List.forall_append.mpr ⟨opsDist_sub, List.forall_append.mpr ⟨opsNearest_sub, List.forall_append.mpr ⟨opsRow1_sub, List.forall_append.mpr ⟨opsRow2_sub, List.forall_append.mpr ⟨opsRow3_sub, List.forall_append.mpr ⟨opsRow4_sub, List.forall_append.mpr ⟨opsTake_sub, opsOut_sub⟩⟩⟩⟩⟩⟩⟩

end Cert.Proof.RefOps
-- ==== Proof.RefDist.lean ====
/-
  The reference's table of distances.
-/
module

public import proofs.«01_k».proof.Proof.RefOps
public import proofs.«01_k».proof.Proof.Results
public import Idealize.ShloMosaic.Lib.Pointwise

@[expose] public section

set_option maxRecDepth 65536

noncomputable section

open Idealize.ShloMosaic Idealize.ShloMosaic.TcCoe Idealize.ShloMosaic.StableHlo Idealize.SL.Sem

namespace Cert.Proof.RefDist
open Cert.ReferenceIdeal Cert.ReferenceIdeal.Gen Cert.Proof.RefOps Cert.Proof.Results Cert.Proof.Spec

/-- The pattern of the number two. -/
theorem two : Ideal.ofBits .f32 0x40000000#32 = (2 : EReal) := by
  simp [Ideal.ofBits, Ideal.ieee, -EReal.coe_mul]; norm_num; rfl

/-- After the first stretch, the table of distances is that of the arguments. -/
theorem value (V : Valuation τ sig (Elt Ideal)) :
    StableHlo.after (opsDist (F := Ideal)) V (Proc.devRef .tc main_v15) = distances (V (Proc.devRef .tc main_arg0)) (V (Proc.devRef .tc main_arg1)) := by
  unfold opsDist
  after_results
  funext i
  obtain ⟨n, j, rfl⟩ : ∃ n j, i = ix2 n j := ⟨_, _, eq_ix2 i⟩
  pointwise [distances, two]
  simp only [Fintype.sum_unique, two_mul_mul]
  rfl

end Cert.Proof.RefDist
-- ==== Proof.RefNearest.lean ====
/-
  The reference's search for the least distance of a row: a fold of pairs of a distance and an index, in which the
  smaller distance wins and, of equal ones, the smaller index.
-/
module

public import proofs.«01_k».proof.Proof.RefOps
public import proofs.«01_k».proof.Proof.Results
public import proofs.«01_k».proof.Proof.Words
public import Idealize.ShloMosaic.Lib.Pointwise
public import Idealize.ShloMosaic.PureOps.Ideal.Laws

@[expose] public section

set_option maxRecDepth 65536

noncomputable section

open Idealize.ShloMosaic Idealize.ShloMosaic.TcCoe Idealize.ShloMosaic.StableHlo Idealize.SL.Sem

namespace Cert.Proof.RefNearest
open Cert.ReferenceIdeal Cert.ReferenceIdeal.Gen Cert.Proof.RefOps Cert.Proof.Results Cert.Proof.Spec

/-- One step of the search: the pair of the smaller distance, and of equal distances the smaller index. -/
theorem step (x y : EReal) (a b : ℕ) (ha : a < 2 ^ 31) (hb : b < 2 ^ 31) :
    reducer_argmin_f32_i32 (F := Ideal) (x, BitVec.ofNat 32 a) (y, BitVec.ofNat 32 b)
      = if x < y then (x, BitVec.ofNat 32 a)
        else if x = y then (y, BitVec.ofNat 32 (min a b)) else (y, BitVec.ofNat 32 b) := by
  simp only [reducer_argmin_f32_i32, FloatOps.cmpf, Ideal.cmpf_def, IntOp.cmpi, Words.slt_word ha hb]
  by_cases h1 : x < y
  · simp [h1, ne_of_lt h1, IntOp.ori, IntOp.andi, Scalar.select, Ideal.cmp]
  · by_cases h2 : x = y
    · by_cases h3 : a < b
      · simp [h1, h2, h3, IntOp.ori, IntOp.andi, Scalar.select, Ideal.cmp, min_eq_left h3.le]
      · simp [h1, h2, h3, IntOp.ori, IntOp.andi, Scalar.select, Ideal.cmp, min_eq_right (not_lt.mp h3)]
    · simp [h1, h2, IntOp.ori, IntOp.andi, Scalar.select, Ideal.cmp]

/-- What the search holds after the indices `l`: a distance `x` and an index `k`, where `x` is least among those of `l`
    and `k` is below every index of `l` at which `x` is taken; and `x` is the distance at `k`, unless the search still
    holds its start. -/
theorem search (D : Fin 512 → EReal) (l : List (Fin 512)) :
    ∃ (x : EReal) (k : Fin 512),
      (l.map fun j => (D j, BitVec.ofNat 32 j.val)).foldl (reducer_argmin_f32_i32 (F := Ideal)) ((⊤ : EReal), 0#32)
          = (x, BitVec.ofNat 32 k.val)
        ∧ (∀ j ∈ l, x ≤ D j ∧ (D j = x → k ≤ j)) ∧ (x = D k ∨ x = ⊤ ∧ k = 0) := by
  induction l using List.reverseRecOn with
  | nil => exact ⟨⊤, 0, rfl, by simp, Or.inr ⟨rfl, rfl⟩⟩
  | append_singleton l i ih =>
    obtain ⟨x, k, he, hl, hx⟩ := ih
    have hk : k.val < 2 ^ 31 := lt_trans k.isLt (by norm_num)
    have hi : i.val < 2 ^ 31 := lt_trans i.isLt (by norm_num)
    rw [List.map_append, List.foldl_append, he]
    simp only [List.map_cons, List.map_nil, List.foldl_cons, List.foldl_nil]
    rw [step x (D i) k.val i.val hk hi]
    by_cases h1 : x < D i
    · refine ⟨x, k, by rw [if_pos h1], fun j hj => ?_, hx⟩
      rcases List.mem_append.mp hj with h | h
      · exact hl j h
      · obtain rfl := List.mem_singleton.mp h
        exact ⟨h1.le, fun h => absurd h h1.ne'⟩
    · by_cases h2 : x = D i
      · refine ⟨x, min k i, ?_, fun j hj => ?_, ?_⟩
        · rw [if_neg h1, if_pos h2, ← h2]
          rcases le_total k i with h | h
          · rw [min_eq_left h, min_eq_left (show k.val ≤ i.val from h)]
          · rw [min_eq_right h, min_eq_right (show i.val ≤ k.val from h)]
        · rcases List.mem_append.mp hj with h | h
          · exact ⟨(hl j h).1, fun e => (min_le_left _ _).trans ((hl j h).2 e)⟩
          · obtain rfl := List.mem_singleton.mp h
            exact ⟨h2.le, fun _ => min_le_right _ _⟩
        · rcases le_total k i with h | h
          · rw [min_eq_left h]; exact hx
          · rw [min_eq_right h]; exact Or.inl h2
      · have h3 : D i < x := lt_of_le_of_ne (not_lt.mp h1) (Ne.symm h2)
        refine ⟨D i, i, by rw [if_neg h1, if_neg h2], fun j hj => ?_, Or.inl rfl⟩
        rcases List.mem_append.mp hj with h | h
        · exact ⟨h3.le.trans (hl j h).1, fun e => absurd (e ▸ (hl j h).1) (not_le.mpr h3)⟩
        · obtain rfl := List.mem_singleton.mp h
          exact ⟨le_rfl, fun _ => le_rfl⟩

/-- Over all the indices, in any order, the search ends at the first index of least distance. -/
theorem search_all (D : Fin 512 → EReal) (l : List (Fin 512)) (hl : ∀ j, j ∈ l) :
    ((l.map fun j => (D j, BitVec.ofNat 32 j.val)).foldl (reducer_argmin_f32_i32 (F := Ideal)) ((⊤ : EReal), 0#32)).2
      = BitVec.ofNat 32 (first D).val := by
  obtain ⟨x, k, he, hx, hk⟩ := search D l
  have hxk : x = D k := by
    rcases hk with h | ⟨h, rfl⟩
    · exact h
    · exact le_antisymm (hx 0 (hl 0)).1 (h ▸ le_top)
  rw [he, first_unique D k (fun i => hxk ▸ (hx i (hl i)).1) fun i hi => ?_]
  exact lt_of_le_of_ne (hxk ▸ (hx i (hl i)).1) fun e => absurd ((hx i (hl i)).2 (by rw [hxk, e])) (not_le.mpr hi)

/-- The search along a row of the table `x`. -/
theorem row {N : ℕ} (x : (⟨2, ![N, 512]⟩ : Shape).Idx → EReal) (h : (⟨2, ![N, 512]⟩ : Shape).ReducesTo [1] ⟨1, ![N]⟩)
    (n : Fin N) :
    (Host.argReduce (reducer_argmin_f32_i32 (F := Ideal)) x (iotaInDim ⟨2, ![N, 512]⟩ 32 1)
        (constant (F := Ideal) S_ .f32 0x7F800000#32) (constantI S_ 32 0#32) h h_S_ (ix1 n)).2
      = BitVec.ofNat 32 (first fun j => x (ix2 n j)).val := by
  rw [Ideal.argReduce_eq_reduce2, Host.reduce2_eq_foldl_fiber, Host.argReduceFiber]
  have hfib : ∀ i : (⟨2, ![N, 512]⟩ : Shape).Idx, h.drop i = ix1 n ↔ ∃ k : Fin 512, ix2 n k = i :=
    fun i => h.fiber_r2_a1 (ix1 n) i
  let col : Fin (⟨2, ![N, 512]⟩ : Shape).numel → Fin 512 := fun p => (⟨2, ![N, 512]⟩ : Shape).rowMajor.symm p 1
  have hmap : ∀ L : List (Fin (⟨2, ![N, 512]⟩ : Shape).numel),
      (∀ p ∈ L, ∃ k : Fin 512, ix2 n k = (⟨2, ![N, 512]⟩ : Shape).rowMajor.symm p) →
      L.map (fun p => (x ((⟨2, ![N, 512]⟩ : Shape).rowMajor.symm p),
          iotaInDim ⟨2, ![N, 512]⟩ 32 1 ((⟨2, ![N, 512]⟩ : Shape).rowMajor.symm p)))
        = (L.map col).map fun j => (x (ix2 n j), BitVec.ofNat 32 j.val) := by
    intro L hL
    rw [List.map_map]
    refine List.map_congr_left fun p hp => ?_
    obtain ⟨k, hk⟩ := hL p hp
    simp only [Function.comp, col, ← hk]
    rfl
  rw [hmap _ fun p hp => (hfib _).mp (of_decide_eq_true (List.mem_filter.mp hp).2)]
  have h0 : (constant (F := Ideal) S_ .f32 0x7F800000#32 (Shape.Idx.first h_S_), constantI S_ 32 0#32 (Shape.Idx.first h_S_))
      = ((⊤ : EReal), 0#32) := Prod.ext Words.inf_top rfl
  rw [h0]
  refine search_all _ _ fun j => ?_
  refine List.mem_map.mpr ⟨(⟨2, ![N, 512]⟩ : Shape).rowMajor (ix2 n j), List.mem_filter.mpr ⟨List.mem_finRange _, ?_⟩, ?_⟩
  · rw [Equiv.symm_apply_apply]
    exact decide_eq_true ((hfib _).mpr ⟨j, rfl⟩)
  · simp only [col, Equiv.symm_apply_apply]; rfl

/-- A list of the pixels' words put in the images' places. -/
theorem placed (w : S100352.Idx → BitVec 32) (b : Fin 2) (h v : Fin 224) :
    shapeCast S2x224x224 w shapeCasts_S100352_S2x224x224 (ix3 b h v) = w (ix1 (pixNo b h v)) := by
  pointwise [pixNo]

/-- After the second stretch, the index in each image's place is that of the pixel's first least distance. -/
theorem value (V : Valuation τ sig (Elt Ideal)) (b : Fin 2) (h v : Fin 224) :
    (StableHlo.after (opsNearest (F := Ideal)) V (Proc.devRef .tc main_v17) : S2x224x224.Idx → BitVec 32) (ix3 b h v)
      = BitVec.ofNat 32
        (first fun j => (V (Proc.devRef .tc main_v15) : S100352x512.Idx → EReal) (ix2 (pixNo b h v) j)).val := by
  unfold opsNearest
  after_results
  exact (placed _ b h v).trans (row (N := 100352) (V (Proc.devRef .tc main_v15)) reducesTo_S100352x512_S100352_d1 (pixNo b h v))

end Cert.Proof.RefNearest
-- ==== Proof.RefRows.lean ====
/-
  The reference's four clamps of the first rows of each image.
-/
module

public import proofs.«01_k».proof.Proof.RefOps
public import proofs.«01_k».proof.Proof.Words
public import proofs.«01_k».proof.Proof.Spec
public import Idealize.ShloMosaic.Lib.Pointwise
public import Idealize.ShloMosaic.Lib.Routing.OpsSet

@[expose] public section

set_option maxRecDepth 65536

noncomputable section

open Idealize.ShloMosaic Idealize.ShloMosaic.TcCoe Idealize.ShloMosaic.StableHlo Idealize.SL.Sem

namespace Cert.Proof.RefRows
open Cert.ReferenceIdeal Cert.ReferenceIdeal.Gen Cert.Proof.RefOps Idealize.ShloMosaic.Routing

/-- The dimension numbers of a write of `K` whole rows of each image, starting at a given row. -/
abbrev rowDims (K : ℕ) (wf : ScatterDims.WF ⟨3, ![2, 224, 224]⟩ ⟨1, ![1]⟩ ⟨3, ![2, K, 224]⟩ [0, 1, 2] [] [1] 0) :
    ScatterDims ⟨3, ![2, 224, 224]⟩ ⟨1, ![1]⟩ ⟨3, ![2, K, 224]⟩ where
  updateWindowDims := [0, 1, 2]
  insertedWindowDims := []
  scatterDimsToOperandDims := [1]
  indexVectorDim := 0
  wf := wf

/-- The write at row 0 puts element `k` at its own coordinates. -/
theorem lands {K : ℕ} (wf : ScatterDims.WF ⟨3, ![2, 224, 224]⟩ ⟨1, ![1]⟩ ⟨3, ![2, K, 224]⟩ [0, 1, 2] [] [1] 0)
    (k : (⟨3, ![2, K, 224]⟩ : Shape).Idx) (b : Fin 2) (h v : Fin 224) :
    (rowDims K wf).resultIdx? k (fun _ => 0#32) = some (ix3 b h v)
      ↔ (k 0).val = b.val ∧ (k 1).val = h.val ∧ (k 2).val = v.val := by
  rw [resultIdx?_eq_some]
  have h0 : (rowDims K wf).start k (fun _ => 0#32) 0 + ((rowDims K wf).window k 0 : Int) = ((k 0).val : Int) := by
    simp [ScatterDims.start]; rfl
  have h1 : (rowDims K wf).start k (fun _ => 0#32) 1 + ((rowDims K wf).window k 1 : Int) = ((k 1).val : Int) := by
    simp [ScatterDims.start]; rfl
  have h2 : (rowDims K wf).start k (fun _ => 0#32) 2 + ((rowDims K wf).window k 2 : Int) = ((k 2).val : Int) := by
    simp [ScatterDims.start]; rfl
  constructor
  · intro q
    have q0 := q 0; have q1 := q 1; have q2 := q 2
    rw [h0] at q0; rw [h1] at q1; rw [h2] at q2
    exact ⟨Int.ofNat_inj.mp q0, Int.ofNat_inj.mp q1, Int.ofNat_inj.mp q2⟩
  · rintro ⟨q0, q1, q2⟩ a
    match a with
    | ⟨0, _⟩ => exact h0.trans (congrArg _ q0)
    | ⟨1, _⟩ => exact h1.trans (congrArg _ q1)
    | ⟨2, _⟩ => exact h2.trans (congrArg _ q2)

/-- The write at row 0: the first `K` rows of each image are the written ones, the others stay. -/
theorem write {K : ℕ} (wf : ScatterDims.WF ⟨3, ![2, 224, 224]⟩ ⟨1, ![1]⟩ ⟨3, ![2, K, 224]⟩ [0, 1, 2] [] [1] 0)
    (x : (⟨3, ![2, 224, 224]⟩ : Shape).Idx → BitVec 32) (u : (⟨3, ![2, K, 224]⟩ : Shape).Idx → BitVec 32)
    (b : Fin 2) (h v : Fin 224) :
    Host.scatter (rowDims K wf) (fun _ c => c) x (fun _ => 0#32) u (ix3 b h v)
      = if hk : h.val < K then u (ix3 b ⟨h.val, hk⟩ v) else x (ix3 b h v) := by
  split
  · next hk =>
    refine scatter_set_hit _ _ _ _ _ _ (fun k q => ?_) (ix3 b ⟨h.val, hk⟩ v) ((lands wf _ b h v).mpr ⟨rfl, rfl, rfl⟩)
    obtain ⟨q0, q1, q2⟩ := (lands wf k b h v).mp q
    rw [eq_ix3 k]
    exact congrArg u (by congr 1 <;> exact Fin.ext (by assumption))
  · next hk =>
    refine scatter_set_miss _ _ _ _ _ fun k q => hk ?_
    rw [← ((lands wf k b h v).mp q).2.1]
    exact (k 1).isLt

/-- One clamp: the first `K` rows' words are limited to `hi`. -/
theorem clamped {K : ℕ} (wf : ScatterDims.WF ⟨3, ![2, 224, 224]⟩ ⟨1, ![1]⟩ ⟨3, ![2, K, 224]⟩ [0, 1, 2] [] [1] 0)
    (hs : (⟨3, ![2, 224, 224]⟩ : Shape).Slices ![0, 0, 0] ⟨3, ![2, K, 224]⟩) (hb : S_.BroadcastsInDim ⟨3, ![2, K, 224]⟩ ![])
    (hb1 : S_.BroadcastsInDim S1 ![]) (hi : ℕ) (hhi : hi < 512)
    (x : (⟨3, ![2, 224, 224]⟩ : Shape).Idx → BitVec 32) (b : Fin 2) (h v : Fin 224) (n : ℕ) (hn : n < 512)
    (hv : x (ix3 b h v) = BitVec.ofNat 32 n) :
    Host.scatter (rowDims K wf) (fun _ c => c) x (broadcastInDim S1 ![] hb1 (constantI S_ 32 0#32))
        (minsi (broadcastInDim ⟨3, ![2, K, 224]⟩ ![] hb (constantI S_ 32 (BitVec.ofNat 32 hi)))
          (maxsi (broadcastInDim ⟨3, ![2, K, 224]⟩ ![] hb (constantI S_ 32 0#32))
            (extractStridedSlice ⟨3, ![2, K, 224]⟩ ![0, 0, 0] x hs))) (ix3 b h v)
      = BitVec.ofNat 32 (if h.val < K then min n hi else n) := by
  refine (write wf x _ b h v).trans ?_
  split
  · next hk =>
    pointwise []
    rw [hv, Words.maxsi_zero_word (lt_trans hn (by norm_num)), Words.minsi_word (lt_trans hhi (by norm_num)) (lt_trans hn (by norm_num)), min_comm]
  · exact hv

/-- After the first clamp, the word of row `h` is the smaller of itself and 1 when `h < 1`, else as before. -/
theorem row1 (V : Valuation τ sig (Elt Ideal)) (b : Fin 2) (h v : Fin 224) (n : ℕ) (hn : n < 512)
    (hv : (V (Proc.devRef .tc main_v17) : S2x224x224.Idx → BitVec 32) (ix3 b h v) = BitVec.ofNat 32 n) :
    (StableHlo.after (opsRow1 (F := Ideal)) V (Proc.devRef .tc main_v21) : S2x224x224.Idx → BitVec 32) (ix3 b h v)
      = BitVec.ofNat 32 (if h.val < 1 then min n 1 else n) := by
  unfold opsRow1
  after_results
  exact clamped _ slices_S2x224x224_S2x1x224_0_0_0 bcast_S_S2x1x224 bcast_S_S1 1 (by norm_num) _ b h v n hn hv

/-- After the second clamp, the word of row `h` is the smaller of itself and 3 when `h < 2`, else as before. -/
theorem row2 (V : Valuation τ sig (Elt Ideal)) (b : Fin 2) (h v : Fin 224) (n : ℕ) (hn : n < 512)
    (hv : (V (Proc.devRef .tc main_v21) : S2x224x224.Idx → BitVec 32) (ix3 b h v) = BitVec.ofNat 32 n) :
    (StableHlo.after (opsRow2 (F := Ideal)) V (Proc.devRef .tc main_v25) : S2x224x224.Idx → BitVec 32) (ix3 b h v)
      = BitVec.ofNat 32 (if h.val < 2 then min n 3 else n) := by
  unfold opsRow2
  after_results
  exact clamped _ slices_S2x224x224_S2x2x224_0_0_0 bcast_S_S2x2x224 bcast_S_S1 3 (by norm_num) _ b h v n hn hv

/-- After the third clamp, the word of row `h` is the smaller of itself and 5 when `h < 3`, else as before. -/
theorem row3 (V : Valuation τ sig (Elt Ideal)) (b : Fin 2) (h v : Fin 224) (n : ℕ) (hn : n < 512)
    (hv : (V (Proc.devRef .tc main_v25) : S2x224x224.Idx → BitVec 32) (ix3 b h v) = BitVec.ofNat 32 n) :
    (StableHlo.after (opsRow3 (F := Ideal)) V (Proc.devRef .tc main_v29) : S2x224x224.Idx → BitVec 32) (ix3 b h v)
      = BitVec.ofNat 32 (if h.val < 3 then min n 5 else n) := by
  unfold opsRow3
  after_results
  exact clamped _ slices_S2x224x224_S2x3x224_0_0_0 bcast_S_S2x3x224 bcast_S_S1 5 (by norm_num) _ b h v n hn hv

/-- After the fourth clamp, the word of row `h` is the smaller of itself and 7 when `h < 4`, else as before. -/
theorem row4 (V : Valuation τ sig (Elt Ideal)) (b : Fin 2) (h v : Fin 224) (n : ℕ) (hn : n < 512)
    (hv : (V (Proc.devRef .tc main_v29) : S2x224x224.Idx → BitVec 32) (ix3 b h v) = BitVec.ofNat 32 n) :
    (StableHlo.after (opsRow4 (F := Ideal)) V (Proc.devRef .tc main_v33) : S2x224x224.Idx → BitVec 32) (ix3 b h v)
      = BitVec.ofNat 32 (if h.val < 4 then min n 7 else n) := by
  unfold opsRow4
  after_results
  exact clamped _ slices_S2x224x224_S2x4x224_0_0_0 bcast_S_S2x4x224 bcast_S_S1 7 (by norm_num) _ b h v n hn hv

end Cert.Proof.RefRows
-- ==== Proof.RefTake.lean ====
/-
  The reference's look-up of codebook entries by index.
-/
module

public import proofs.«01_k».proof.Proof.RefOps
public import proofs.«01_k».proof.Proof.Words
public import Idealize.ShloMosaic.Lib.Pointwise

@[expose] public section

set_option maxRecDepth 65536

noncomputable section

open Idealize.ShloMosaic Idealize.ShloMosaic.TcCoe Idealize.ShloMosaic.StableHlo Idealize.SL.Sem

namespace Cert.Proof.RefTake
open Cert.ReferenceIdeal Cert.ReferenceIdeal.Gen Cert.Proof.RefOps

/-- The look-up at a place whose index word is that of `k`: the entry number `k`. -/
theorem picked (w : S512x1.Idx → EReal) (idx : S2x224x224x1.Idx → BitVec 32) (b : Fin 2) (h v : Fin 224) (k : Fin 512)
    (hk : idx (ix4 b h v 0) = BitVec.ofNat 32 k.val) :
    Host.gather gather_S512x1_S2x224x224x1_S2x224x224x1_3_0_n_n_0_3_11 w idx (ix4 b h v 0) = w (ix2 k 0) := by
  unfold Host.gather
  refine congrArg w (funext fun a => Fin.ext ?_)
  match a with
  | ⟨0, _⟩ =>
    have hs : gather_S512x1_S2x224x224x1_S2x224x224x1_3_0_n_n_0_3_11.siIdx (ix4 b h v 0) ⟨0, by decide⟩ = ix4 b h v 0 := by
      funext c
      match c with
      | ⟨0, _⟩ => rfl
      | ⟨1, _⟩ => rfl
      | ⟨2, _⟩ => rfl
      | ⟨3, _⟩ => rfl
    show min (idx (gather_S512x1_S2x224x224x1_S2x224x224x1_3_0_n_n_0_3_11.siIdx (ix4 b h v 0) ⟨0, _⟩)).toInt.toNat 511 + 0 + 0 = k.val
    rw [hs, hk, Words.toInt_word (lt_trans k.isLt (by norm_num))]
    have := k.isLt
    omega
  | ⟨1, _⟩ => rfl

/-- After the look-up, a place whose index word is that of `k` holds codebook entry `k`. -/
theorem value (V : Valuation τ sig (Elt Ideal)) (b : Fin 2) (h v : Fin 224) (k : Fin 512)
    (hk : (V (Proc.devRef .tc main_v33) : S2x224x224.Idx → BitVec 32) (ix3 b h v) = BitVec.ofNat 32 k.val) :
    (StableHlo.after (opsTake (F := Ideal)) V (Proc.devRef .tc main_v34) : S2x224x224x1.Idx → EReal) (ix4 b h v 0)
      = (V (Proc.devRef .tc main_arg1) : S512x1.Idx → EReal) (ix2 k 0) := by
  unfold opsTake
  after_results
  have hn := k.isLt
  have hneg : IntOp.cmpi .slt (BitVec.ofNat 32 k.val) 0#32 = 0#1 := by
    show BitVec.ofBool ((BitVec.ofNat 32 k.val).slt (BitVec.ofNat 32 0)) = 0#1
    rw [Words.slt_word (by omega) (by norm_num)]
    simp
  have hge : IntOp.cmpi .sge (BitVec.ofNat 32 k.val) 0#32 = 1#1 := by
    show BitVec.ofBool ((BitVec.ofNat 32 0).sle (BitVec.ofNat 32 k.val)) = 1#1
    rw [BitVec.sle, Words.toInt_word (by omega), Words.toInt_word (by omega)]
    simp
  have hle : IntOp.cmpi .sle (BitVec.ofNat 32 k.val) 511#32 = 1#1 := by
    show BitVec.ofBool ((BitVec.ofNat 32 k.val).sle (BitVec.ofNat 32 511)) = 1#1
    rw [BitVec.sle, Words.toInt_word (by omega), Words.toInt_word (by omega)]
    have : (k.val : ℤ) ≤ 511 := by omega
    simp [this]
  pointwise [hk]
  rw [picked _ _ b h v k (by pointwise [hk]; rw [hneg]; rfl)]
  simp only [hneg]
  simp [Scalar.select, hge, hle, IntOp.andi]

end Cert.Proof.RefTake
-- ==== Proof.RefOut.lean ====
/-
  The reference's straight-through values and loss, from the looked-up codebook entries.
-/
module

public import proofs.«01_k».proof.Proof.RefOps
public import proofs.«01_k».proof.Proof.Results
public import Idealize.ShloMosaic.Lib.Pointwise

@[expose] public section

set_option maxRecDepth 65536

noncomputable section

open Idealize.ShloMosaic Idealize.ShloMosaic.TcCoe Idealize.ShloMosaic.StableHlo Idealize.SL.Sem

namespace Cert.Proof.RefOut
open Cert.ReferenceIdeal Cert.ReferenceIdeal.Gen Cert.Proof.RefOps Cert.Proof.Results Cert.Proof.Spec

/-- The pattern of the number of pixels. -/
theorem count : Ideal.ofBits .f32 0x47C40000#32 = ((100352 : ℝ) : EReal) := by
  simp [Ideal.ofBits, Ideal.ieee, -EReal.coe_mul]; norm_num

/-- A sum over the images' places is the sum over the pixels. -/
theorem sum_places (f : Fin 2 → Fin 224 → Fin 224 → EReal) (g : Fin 100352 → EReal)
    (hf : ∀ b h v, f b h v = g (pixNo b h v)) : (∑ b, ∑ h, ∑ v, f b h v) = ∑ n, g n := by
  simp only [hf]
  rw [← Fintype.sum_prod_type' (f := fun b h => ∑ v, g (pixNo b h v)),
    ← Fintype.sum_prod_type' (f := fun (p : Fin 2 × Fin 224) v => g (pixNo p.1 p.2 v))]
  refine Fintype.sum_bijective (fun p : (Fin 2 × Fin 224) × Fin 224 => pixNo p.1.1 p.1.2 p.2) ⟨?_, fun n => ?_⟩ _ _
    fun _ => rfl
  · rintro ⟨⟨b, h⟩, v⟩ ⟨⟨b', h'⟩, v'⟩ e
    have e : pixNo b h v = pixNo b' h' v' := e
    have e0 : b = b' := Fin.ext (by rw [← pixNo_image b h v, e, pixNo_image])
    have e1 : h = h' := Fin.ext (by rw [← pixNo_row b h v, e, pixNo_row])
    have e2 : v = v' := Fin.ext (by rw [← pixNo_column b h v, e, pixNo_column])
    rw [e0, e1, e2]
  · refine ⟨((⟨n.val / 50176, by have := n.isLt; omega⟩, ⟨n.val / 224 % 224, by omega⟩), ⟨n.val % 224, by omega⟩), ?_⟩
    apply Fin.ext
    simp only [pixNo]
    omega

/-- The sum of an array in the images' places is the sum over the pixels. -/
theorem total (x : S2x1x224x224.Idx → EReal) (g : Fin 100352 → EReal) (hx : ∀ b h v, x (ix4 b 0 h v) = g (pixNo b h v))
    (i : S_.Idx) : Ideal.hostReduceAdd reducesTo_S2x1x224x224_S_d0_1_2_3 x 0 i = ∑ n, g n := by
  rw [Ideal.hostReduceAdd, zero_add, Finset.filter_true_of_mem fun j _ => Subsingleton.elim _ _, sum_idx4]
  simp only [Fintype.sum_unique]
  exact sum_places _ g hx

/-- The straight-through values, when the looked-up entry of each place is that of the pixel's code. -/
theorem straight (V : Valuation τ sig (Elt Ideal)) (A : S2x1x224x224.Idx → EReal) (B : S512x1.Idx → EReal)
    (hA : V (Proc.devRef .tc main_arg0) = A)
    (hq : ∀ b h v, (V (Proc.devRef .tc main_v34) : S2x224x224x1.Idx → EReal) (ix4 b h v 0)
      = entries B (codeOf A B (pixNo b h v))) :
    StableHlo.after (opsOut (F := Ideal)) V (Proc.devRef .tc main_v46) = quants A B := by
  unfold opsOut
  after_results
  funext i
  obtain ⟨b, z, h, v, rfl⟩ : ∃ b z h v, i = ix4 b z h v := ⟨_, _, _, _, eq_ix4 i⟩
  obtain rfl : z = 0 := Subsingleton.elim _ _
  pointwise [hA, hq]
  show _ = quant (pixels A (pixNo b h v)) (entries B (codeOf A B (pixNo b h v)))
  rw [quant, pixels_pixNo]

/-- The loss, likewise. -/
theorem lossValue (V : Valuation τ sig (Elt Ideal)) (A : S2x1x224x224.Idx → EReal) (B : S512x1.Idx → EReal)
    (hA : V (Proc.devRef .tc main_arg0) = A)
    (hq : ∀ b h v, (V (Proc.devRef .tc main_v34) : S2x224x224x1.Idx → EReal) (ix4 b h v 0)
      = entries B (codeOf A B (pixNo b h v))) :
    StableHlo.after (opsOut (F := Ideal)) V (Proc.devRef .tc main_v44) = lossOut A B := by
  unfold opsOut
  after_results
  have hs : ∀ (j : S_.Idx), Ideal.hostReduceAdd reducesTo_S2x1x224x224_S_d0_1_2_3
      (mulf (F := Ideal) (φ := .f32)
        (subf (F := Ideal) (φ := .f32) (transpose S2x1x224x224 [0, 3, 1, 2] (V (Proc.devRef .tc main_v34)) transposes_S2x224x224x1_S2x1x224x224_0_3_1_2) A)
        (subf (F := Ideal) (φ := .f32) (transpose S2x1x224x224 [0, 3, 1, 2] (V (Proc.devRef .tc main_v34)) transposes_S2x224x224x1_S2x1x224x224_0_3_1_2) A)) 0 j
      = ∑ n, sqErr (pixels A n) (entries B (codeOf A B n)) := by
    intro j
    refine total _ (fun n => sqErr (pixels A n) (entries B (codeOf A B n))) (fun b h v => ?_) j
    pointwise [hq]
    rw [sqErr, pixels_pixNo]
  funext i
  pointwise [hA, count]
  rw [hs, Ideal.div_coe (by norm_num)]
  exact (loss_eq_twice_mean _ _).symm

end Cert.Proof.RefOut
-- ==== Proof.RefRun.lean ====
/-
  The reference program's run, over the extended reals: what the four results end with, as functions of the two
  arguments.
-/
module

public import proofs.«01_k».proof.Proof.RefDist
public import proofs.«01_k».proof.Proof.RefNearest
public import proofs.«01_k».proof.Proof.RefRows
public import proofs.«01_k».proof.Proof.RefTake
public import proofs.«01_k».proof.Proof.RefOut
public import Idealize.ShloMosaic.Lib.Quiescent

@[expose] public section

set_option maxRecDepth 65536

noncomputable section

open Idealize.ShloMosaic Idealize.ShloMosaic.TcCoe Idealize.ShloMosaic.StableHlo Idealize.SL.Sem

namespace Cert.Proof.RefRun
open Cert.ReferenceIdeal Cert.ReferenceIdeal.Gen Cert.Proof.RefOps Cert.Proof.Results Cert.Proof.Spec

/-- What two lines of operations leave, one after the other. -/
theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The contents after the first stretch, the second, and so on. -/
abbrev s1 (V : Valuation τ sig (Elt Ideal)) := StableHlo.after (opsDist (F := Ideal)) V
abbrev s2 (V : Valuation τ sig (Elt Ideal)) := StableHlo.after (opsNearest (F := Ideal)) (s1 V)
abbrev s3 (V : Valuation τ sig (Elt Ideal)) := StableHlo.after (opsRow1 (F := Ideal)) (s2 V)
abbrev s4 (V : Valuation τ sig (Elt Ideal)) := StableHlo.after (opsRow2 (F := Ideal)) (s3 V)
abbrev s5 (V : Valuation τ sig (Elt Ideal)) := StableHlo.after (opsRow3 (F := Ideal)) (s4 V)
abbrev s6 (V : Valuation τ sig (Elt Ideal)) := StableHlo.after (opsRow4 (F := Ideal)) (s5 V)
abbrev s7 (V : Valuation τ sig (Elt Ideal)) := StableHlo.after (opsTake (F := Ideal)) (s6 V)
abbrev s8 (V : Valuation τ sig (Elt Ideal)) := StableHlo.after (opsOut (F := Ideal)) (s7 V)

/-- The whole line leaves what the eight stretches leave. -/
theorem after_ops (V : Valuation τ sig (Elt Ideal)) : StableHlo.after (ops (F := Ideal)) V = s8 V := by
  rw [after_two, after_two, after_two, after_two, after_two, after_two, after_two]

/-! The arguments keep their contents through every stretch. -/

theorem dist_arg0 (V : Valuation τ sig (Elt Ideal)) :
    StableHlo.after (opsDist (F := Ideal)) V (Proc.devRef .tc main_arg0) = V (Proc.devRef .tc main_arg0) := by
  unfold opsDist; after_results
theorem dist_arg1 (V : Valuation τ sig (Elt Ideal)) :
    StableHlo.after (opsDist (F := Ideal)) V (Proc.devRef .tc main_arg1) = V (Proc.devRef .tc main_arg1) := by
  unfold opsDist; after_results
theorem nearest_arg0 (V : Valuation τ sig (Elt Ideal)) :
    StableHlo.after (opsNearest (F := Ideal)) V (Proc.devRef .tc main_arg0) = V (Proc.devRef .tc main_arg0) := by
  unfold opsNearest; after_results
theorem nearest_arg1 (V : Valuation τ sig (Elt Ideal)) :
    StableHlo.after (opsNearest (F := Ideal)) V (Proc.devRef .tc main_arg1) = V (Proc.devRef .tc main_arg1) := by
  unfold opsNearest; after_results
theorem row1_arg0 (V : Valuation τ sig (Elt Ideal)) :
    StableHlo.after (opsRow1 (F := Ideal)) V (Proc.devRef .tc main_arg0) = V (Proc.devRef .tc main_arg0) := by
  unfold opsRow1; after_results
theorem row1_arg1 (V : Valuation τ sig (Elt Ideal)) :
    StableHlo.after (opsRow1 (F := Ideal)) V (Proc.devRef .tc main_arg1) = V (Proc.devRef .tc main_arg1) := by
  unfold opsRow1; after_results
theorem row2_arg0 (V : Valuation τ sig (Elt Ideal)) :
    StableHlo.after (opsRow2 (F := Ideal)) V (Proc.devRef .tc main_arg0) = V (Proc.devRef .tc main_arg0) := by
  unfold opsRow2; after_results
theorem row2_arg1 (V : Valuation τ sig (Elt Ideal)) :
    StableHlo.after (opsRow2 (F := Ideal)) V (Proc.devRef .tc main_arg1) = V (Proc.devRef .tc main_arg1) := by
  unfold opsRow2; after_results
theorem row3_arg0 (V : Valuation τ sig (Elt Ideal)) :
    StableHlo.after (opsRow3 (F := Ideal)) V (Proc.devRef .tc main_arg0) = V (Proc.devRef .tc main_arg0) := by
  unfold opsRow3; after_results
theorem row3_arg1 (V : Valuation τ sig (Elt Ideal)) :
    StableHlo.after (opsRow3 (F := Ideal)) V (Proc.devRef .tc main_arg1) = V (Proc.devRef .tc main_arg1) := by
  unfold opsRow3; after_results
theorem row4_arg0 (V : Valuation τ sig (Elt Ideal)) :
    StableHlo.after (opsRow4 (F := Ideal)) V (Proc.devRef .tc main_arg0) = V (Proc.devRef .tc main_arg0) := by
  unfold opsRow4; after_results
theorem row4_arg1 (V : Valuation τ sig (Elt Ideal)) :
    StableHlo.after (opsRow4 (F := Ideal)) V (Proc.devRef .tc main_arg1) = V (Proc.devRef .tc main_arg1) := by
  unfold opsRow4; after_results
theorem take_arg0 (V : Valuation τ sig (Elt Ideal)) :
    StableHlo.after (opsTake (F := Ideal)) V (Proc.devRef .tc main_arg0) = V (Proc.devRef .tc main_arg0) := by
  unfold opsTake; after_results
theorem take_arg1 (V : Valuation τ sig (Elt Ideal)) :
    StableHlo.after (opsTake (F := Ideal)) V (Proc.devRef .tc main_arg1) = V (Proc.devRef .tc main_arg1) := by
  unfold opsTake; after_results
theorem out_arg0 (V : Valuation τ sig (Elt Ideal)) :
    StableHlo.after (opsOut (F := Ideal)) V (Proc.devRef .tc main_arg0) = V (Proc.devRef .tc main_arg0) := by
  unfold opsOut; after_results
theorem out_arg1 (V : Valuation τ sig (Elt Ideal)) :
    StableHlo.after (opsOut (F := Ideal)) V (Proc.devRef .tc main_arg1) = V (Proc.devRef .tc main_arg1) := by
  unfold opsOut; after_results

/-! The distances keep their contents once they are there, and the clamped codes likewise. -/

theorem nearest_v15 (V : Valuation τ sig (Elt Ideal)) :
    StableHlo.after (opsNearest (F := Ideal)) V (Proc.devRef .tc main_v15) = V (Proc.devRef .tc main_v15) := by
  unfold opsNearest; after_results
theorem row1_v15 (V : Valuation τ sig (Elt Ideal)) :
    StableHlo.after (opsRow1 (F := Ideal)) V (Proc.devRef .tc main_v15) = V (Proc.devRef .tc main_v15) := by
  unfold opsRow1; after_results
theorem row2_v15 (V : Valuation τ sig (Elt Ideal)) :
    StableHlo.after (opsRow2 (F := Ideal)) V (Proc.devRef .tc main_v15) = V (Proc.devRef .tc main_v15) := by
  unfold opsRow2; after_results
theorem row3_v15 (V : Valuation τ sig (Elt Ideal)) :
    StableHlo.after (opsRow3 (F := Ideal)) V (Proc.devRef .tc main_v15) = V (Proc.devRef .tc main_v15) := by
  unfold opsRow3; after_results
theorem row4_v15 (V : Valuation τ sig (Elt Ideal)) :
    StableHlo.after (opsRow4 (F := Ideal)) V (Proc.devRef .tc main_v15) = V (Proc.devRef .tc main_v15) := by
  unfold opsRow4; after_results
theorem take_v15 (V : Valuation τ sig (Elt Ideal)) :
    StableHlo.after (opsTake (F := Ideal)) V (Proc.devRef .tc main_v15) = V (Proc.devRef .tc main_v15) := by
  unfold opsTake; after_results
theorem out_v15 (V : Valuation τ sig (Elt Ideal)) :
    StableHlo.after (opsOut (F := Ideal)) V (Proc.devRef .tc main_v15) = V (Proc.devRef .tc main_v15) := by
  unfold opsOut; after_results
theorem take_v33 (V : Valuation τ sig (Elt Ideal)) :
    StableHlo.after (opsTake (F := Ideal)) V (Proc.devRef .tc main_v33) = V (Proc.devRef .tc main_v33) := by
  unfold opsTake; after_results
theorem out_v33 (V : Valuation τ sig (Elt Ideal)) :
    StableHlo.after (opsOut (F := Ideal)) V (Proc.devRef .tc main_v33) = V (Proc.devRef .tc main_v33) := by
  unfold opsOut; after_results

/-- The look-up reads the codebook, and the last stretch the images, as they were given. -/
theorem arg1_before_take (V : Valuation τ sig (Elt Ideal)) : s6 V (Proc.devRef .tc main_arg1) = V (Proc.devRef .tc main_arg1) := by
  rw [s6, row4_arg1, s5, row3_arg1, s4, row2_arg1, s3, row1_arg1, s2, nearest_arg1, s1, dist_arg1]
theorem arg0_before_out (V : Valuation τ sig (Elt Ideal)) : s7 V (Proc.devRef .tc main_arg0) = V (Proc.devRef .tc main_arg0) := by
  rw [s7, take_arg0, s6, row4_arg0, s5, row3_arg0, s4, row2_arg0, s3, row1_arg0, s2, nearest_arg0, s1, dist_arg0]
theorem arg0_end (V : Valuation τ sig (Elt Ideal)) : s8 V (Proc.devRef .tc main_arg0) = V (Proc.devRef .tc main_arg0) := by
  rw [s8, out_arg0, arg0_before_out]
theorem arg1_end (V : Valuation τ sig (Elt Ideal)) : s8 V (Proc.devRef .tc main_arg1) = V (Proc.devRef .tc main_arg1) := by
  rw [s8, out_arg1, s7, take_arg1, arg1_before_take]

/-- The four limits in turn are one limit that depends on the row. -/
theorem limits (n h : ℕ) (hn : n < 512) :
    (if h < 4 then min (if h < 3 then min (if h < 2 then min (if h < 1 then min n 1 else n) 3 else
        (if h < 1 then min n 1 else n)) 5 else (if h < 2 then min (if h < 1 then min n 1 else n) 3 else
        (if h < 1 then min n 1 else n))) 7 else (if h < 3 then min (if h < 2 then min (if h < 1 then min n 1 else n) 3 else
        (if h < 1 then min n 1 else n)) 5 else (if h < 2 then min (if h < 1 then min n 1 else n) 3 else
        (if h < 1 then min n 1 else n)))) = min n (bound h) := by
  unfold bound
  split_ifs <;> omega

/-- After the clamps, each place holds the word of its pixel's code. -/
theorem code_word (V : Valuation τ sig (Elt Ideal)) (b : Fin 2) (h v : Fin 224) :
    (s6 V (Proc.devRef .tc main_v33) : S2x224x224.Idx → BitVec 32) (ix3 b h v)
      = BitVec.ofNat 32 (codeOf (V (Proc.devRef .tc main_arg0)) (V (Proc.devRef .tc main_arg1)) (pixNo b h v)).val := by
  have e2 := RefNearest.value (s1 V) b h v
  rw [s1, RefDist.value] at e2
  generalize hn : (first fun j => distances (V (Proc.devRef .tc main_arg0)) (V (Proc.devRef .tc main_arg1))
    (ix2 (pixNo b h v) j)) = f at e2
  have hf := f.isLt
  have e3 := RefRows.row1 (s2 V) b h v f.val hf e2
  have e4 := RefRows.row2 (s3 V) b h v _ (by split_ifs <;> omega) e3
  have e5 := RefRows.row3 (s4 V) b h v _ (by split_ifs <;> omega) e4
  have e6 := RefRows.row4 (s5 V) b h v _ (by split_ifs <;> omega) e5
  rw [limits _ _ hf] at e6
  rw [s6, e6, ← hn]
  refine congrArg (BitVec.ofNat 32) ?_
  show _ = min _ (bound ((pixNo b h v).val / 224 % 224))
  rw [pixNo_row]
  rfl

/-- After the look-up, each place holds its pixel's codebook entry. -/
theorem entry (V : Valuation τ sig (Elt Ideal)) (b : Fin 2) (h v : Fin 224) :
    (s7 V (Proc.devRef .tc main_v34) : S2x224x224x1.Idx → EReal) (ix4 b h v 0)
      = entries (V (Proc.devRef .tc main_arg1))
          (codeOf (V (Proc.devRef .tc main_arg0)) (V (Proc.devRef .tc main_arg1)) (pixNo b h v)) := by
  rw [s7, RefTake.value (s6 V) b h v _ (code_word V b h v), arg1_before_take]
  rfl

/-- The result of straight-through values. -/
theorem res_quants (V : Valuation τ sig (Elt Ideal)) :
    s8 V (Proc.devRef .tc main_v46) = quants (V (Proc.devRef .tc main_arg0)) (V (Proc.devRef .tc main_arg1)) :=
  RefOut.straight (s7 V) _ _ (arg0_before_out V) (entry V)

/-- The result of the loss. -/
theorem res_loss (V : Valuation τ sig (Elt Ideal)) :
    s8 V (Proc.devRef .tc main_v44) = lossOut (V (Proc.devRef .tc main_arg0)) (V (Proc.devRef .tc main_arg1)) :=
  RefOut.lossValue (s7 V) _ _ (arg0_before_out V) (entry V)

/-- The result of codes. -/
theorem res_codes (V : Valuation τ sig (Elt Ideal)) :
    s8 V (Proc.devRef .tc main_v33) = codes (V (Proc.devRef .tc main_arg0)) (V (Proc.devRef .tc main_arg1)) := by
  rw [s8, out_v33, s7, take_v33]
  funext i
  obtain ⟨b, h, v, rfl⟩ : ∃ b h v, i = (ix3 b h v : S2x224x224.Idx) := ⟨i 0, i 1, i 2, eq_ix3 i⟩
  exact code_word V b h v

/-- The result of distances. -/
theorem res_distances (V : Valuation τ sig (Elt Ideal)) :
    s8 V (Proc.devRef .tc main_v15) = distances (V (Proc.devRef .tc main_arg0)) (V (Proc.devRef .tc main_arg1)) := by
  rw [s8, out_v15, s7, take_v15, s6, row4_v15, s5, row3_v15, s4, row2_v15, s3, row1_v15, s2, nearest_v15, s1, RefDist.value]

/-- No buffer and no semaphore of the program is scoped. -/
theorem no_scoped_refs : (Finset.univ.filter fun b : Ref sig .tc => b.isScoped) = ∅ := by decide
theorem no_scoped_sems : (Finset.univ.filter fun sm : SemLoc sig => sm.isScoped .tc) = ∅ := by decide

/-- Every operation determines its results. -/
theorem ops_fresh (op : HloOp τ sig (Elt Ideal)) (h : op ∈ (ops (F := Ideal))) : op.fresh = ∅ := by
  simp only [List.mem_append] at h
  rcases h with h | h | h | h | h | h | h | h <;>
    · (repeat (cases h with | head => rfl | tail _ h => ?_)); exact nomatch h

variable (m : (ℓ : Loc nD τ sig) → Buf (Elt Ideal) ℓ) (ρ : Dev nD → PrngReg)

/-- The reference program ends with the four results at their functions of the arguments, the arguments unchanged and
    every semaphore at zero. -/
theorem run : θ_run (defs (F := Ideal)) (onTc (τ := τ) (main (F := Ideal))) ⟨m, fun _ => 0, ρ⟩ fun r =>
    (∀ c : Dev nD,
      r.2.mem ((c.tc : Thread nD τ).loc main_v46)
          = quants (m ((c.tc : Thread nD τ).loc main_arg0)) (m ((c.tc : Thread nD τ).loc main_arg1))
      ∧ r.2.mem ((c.tc : Thread nD τ).loc main_v33)
          = codes (m ((c.tc : Thread nD τ).loc main_arg0)) (m ((c.tc : Thread nD τ).loc main_arg1))
      ∧ r.2.mem ((c.tc : Thread nD τ).loc main_v15)
          = distances (m ((c.tc : Thread nD τ).loc main_arg0)) (m ((c.tc : Thread nD τ).loc main_arg1))
      ∧ r.2.mem ((c.tc : Thread nD τ).loc main_v44)
          = lossOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c =>
      ⟨(h c main_v46).trans ((congrFun (after_ops _) _).trans (res_quants _)),
        (h c main_v33).trans ((congrFun (after_ops _) _).trans (res_codes _)),
        (h c main_v15).trans ((congrFun (after_ops _) _).trans (res_distances _)),
        (h c main_v44).trans ((congrFun (after_ops _) _).trans (res_loss _)),
        (h c main_arg0).trans ((congrFun (after_ops _) _).trans (arg0_end _)),
        (h c main_arg1).trans ((congrFun (after_ops _) _).trans (arg1_end _))⟩,
      sem_eq_zero_of_no_sems (by decide) r.2⟩)
    (run_seq no_scoped_refs no_scoped_sems defs main (fun _ => ops) main_eq (fun _ => ops_sub) m ρ (fun _ => ops_fresh))

end Cert.Proof.RefRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem Cert.Proof.Results

/-- The reference terminates with its arguments unchanged and its semaphores at zero. -/
theorem reference_frame : Cert.quiescent_ReferenceIdeal (hReferenceIdeal := Cert.ReferenceIdeal.Gen.facts) := fun m ρ _ =>
  (θ_run Cert.ReferenceIdeal.defs _ _).mono (fun _ h => ⟨fun c => (h.1 c).2.2.2.2, h.2⟩) (RefRun.run m ρ)

/-- The kernel's scale is the named constant, and its rounded literal is what the program holds. -/
theorem named : Cert.preserves_Kernel_KernelIdeal :=
  IdealRules.named_const.statement Cert.KernelIdeal.κ "two_over_n" .f32 0x37A72F05#32 ((1 / 50176 : ℝ) : EReal) rfl

/-- Kernel and reference end with the same four results, those of `Results`. -/
theorem same_results : Cert.algebraic_KernelIdeal_ReferenceIdeal (hKernelIdeal := Cert.KernelIdeal.Gen.facts)
    (hReferenceIdeal := Cert.ReferenceIdeal.Gen.facts) := by
  intro m ρ m' ρ' _ hargs
  refine ⟨fun c => quants (KernelArrays.argA m c) (KernelArrays.argB m c),
    fun c => codes (KernelArrays.argA m c) (KernelArrays.argB m c),
    fun c => distances (KernelArrays.argA m c) (KernelArrays.argB m c),
    fun c => lossOut (KernelArrays.argA m c) (KernelArrays.argB m c), KernelRun.run m ρ, ?_⟩
  refine (θ_run Cert.ReferenceIdeal.defs _ _).mono (fun r h c => ?_) (RefRun.run m' ρ')
  obtain ⟨hq, hc, hd, hl, h0, h1⟩ := h.1 c
  rw [(hargs c).1, (hargs c).2] at hq hc hd hl
  exact ⟨hq, hc, hd, hl, h0, h1⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, named,
  same_results⟩

end Cert.Proof

end
